-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S1x2048x1024 : Shape := ⟨3, ![1, 2048, 1024]⟩
abbrev S8x1024 : Shape := ⟨2, ![8, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S1x2048x1024 .f32) (main_arg1 : FVec F S8x1024 .f32) (main_arg2 : FVec F S8x1024x2048 .f32) (main_arg3 : FVec F S8x2048 .f32) (main_arg4 : FVec F S8x2048x1024 .f32) (main_arg5 : FVec F S8x1024 .f32) : IVec S_ 1 :=
  let main_cst : FVec F S_ .f32 := constant S_ .f32 0x00000000#32
  let main_v0 : FVec F S8x2048 .f32 := broadcastInDim S8x2048 ![] bcast_S_S8x2048 main_cst
  let main_v1 : IVec S8x2048 1 := cmpf .oeq main_arg3 main_v0
  let main_c : IVec S_ 1 := constantI S_ 1 1#1
  let main_v2 : IVec S_ 1 := (fun x v => Host.reduce IntOp.andi x v reducesTo_S8x2048_S_d0_1 h_S_) main_v1 main_c
  let main_cst_0 : FVec F S_ .f32 := constant S_ .f32 0x00000000#32
  let main_v3 : FVec F S8x1024 .f32 := broadcastInDim S8x1024 ![] bcast_S_S8x1024 main_cst_0
  let main_v4 : IVec S8x1024 1 := cmpf .oeq main_arg5 main_v3
  let main_c_1 : IVec S_ 1 := constantI S_ 1 1#1
  let main_v5 : IVec S_ 1 := (fun x v => Host.reduce IntOp.andi x v reducesTo_S8x1024_S_d0_1 h_S_) main_v4 main_c_1
  let main_v6 : IVec S_ 1 := andi main_v2 main_v5
  main_v6
-- ==== Kernel.lean ====
abbrev S1x2048x1024 : Shape := ⟨3, ![1, 2048, 1024]⟩
abbrev S8x1024 : Shape := ⟨2, ![8, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S2048x1024 : Shape := ⟨2, ![2048, 1024]⟩
abbrev S1x1 : Shape := ⟨2, ![1, 1]⟩
abbrev S1x1024x2048 : Shape := ⟨3, ![1, 1024, 2048]⟩
abbrev S2048x8 : Shape := ⟨2, ![2048, 8]⟩
abbrev S1024x1024 : Shape := ⟨2, ![1024, 1024]⟩
abbrev S1024x8 : Shape := ⟨2, ![1024, 8]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1x1024x8 : Shape := ⟨3, ![1, 1024, 8]⟩
abbrev S1024x2048 : Shape := ⟨2, ![1024, 2048]⟩
abbrev S_ : Shape := ⟨0, ![]⟩

abbrev nBuf : Space → Nat
  | .hbm => 13
  | .vmem => 9
  | .smem => 2
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S2048x1024, .f32⟩
  | .hbm, ⟨7, _⟩ => ⟨S2048x1024, .f32⟩
  | .hbm, ⟨8, _⟩ => ⟨S1x1, .f32⟩
  | .hbm, ⟨9, _⟩ => ⟨S1x1, .f32⟩
  | .hbm, ⟨10, _⟩ => ⟨S1x2048x1024, .f32⟩
  | .hbm, ⟨11, _⟩ => ⟨S_, .f32⟩
  | .hbm, ⟨12, _⟩ => ⟨S_, .f32⟩
  | .local _ .vmem, ⟨0, _⟩ => ⟨S2048x1024, .f32⟩
  | .local _ .vmem, ⟨1, _⟩ => ⟨S8x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S2048x1024, .f32⟩
  | .local _ .vmem, ⟨7, _⟩ => ⟨S2048x8, .f32⟩
  | .local _ .vmem, ⟨8, _⟩ => ⟨S2048x1024, .bf16⟩
  | .local _ .smem, ⟨0, _⟩ => ⟨S1x1, .f32⟩
  | .local _ .smem, ⟨1, _⟩ => ⟨S1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v40 : Index := Scalar.indexCast v0
  let c0_18 : Index := 0#32
  ![v40.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v63 : Index := Scalar.indexCast v0
  let c0_26 : Index := 0#32
  ![v63.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v4 : Index := Scalar.indexCast v0
  let c0 : Index := 0#32
  ![v4.toNat, 0]
def k0_off4 (i : grid0.Coords) : Fin 2 → Nat :=
  let arg1 : BitVec 32 := BitVec.ofNat 32 (i 1).val
  let c1024_i32 : BitVec 32 := 1024#32
  let v0 : BitVec 32 := Scalar.muli arg1 c1024_i32
  let v26 : Index := Scalar.indexCast v0
  let c0_11 : Index := 0#32
  ![v26.toNat, 0]
def k0_cond5 (i : grid0.Coords) : BitVec 1 :=
  let arg0 : BitVec 32 := BitVec.ofNat 32 (i 0).val
  let c0_i32_14 : BitVec 32 := 0#32
  let v34 : BitVec 1 := Scalar.cmpi .eq arg0 c0_i32_14
  let v35 : BitVec 32 := Scalar.extui v34
  let c0_i32_15 : BitVec 32 := 0#32
  let v36 : BitVec 1 := Scalar.cmpi .ne v35 c0_i32_15
  v36

def k0_off5 (i : grid0.Coords) : Fin 2 → Nat :=
  let arg1 : BitVec 32 := BitVec.ofNat 32 (i 1).val
  let c1024_i32 : BitVec 32 := 1024#32
  let v0 : BitVec 32 := Scalar.muli arg1 c1024_i32
  let v40 : Index := Scalar.indexCast v0
  let c0_18 : Index := 0#32
  ![v40.toNat, 0]
def k0_cond6 (i : grid0.Coords) : BitVec 1 :=
  let arg0 : BitVec 32 := BitVec.ofNat 32 (i 0).val
  let c0_i32_16 : BitVec 32 := 0#32
  let v37 : BitVec 1 := Scalar.cmpi .sgt arg0 c0_i32_16
  let v38 : BitVec 32 := Scalar.extui v37
  let c0_i32_17 : BitVec 32 := 0#32
  let v39 : BitVec 1 := Scalar.cmpi .ne v38 c0_i32_17
  v39

def k0_off6 (i : grid0.Coords) : Fin 2 → Nat :=
  let arg1 : BitVec 32 := BitVec.ofNat 32 (i 1).val
  let c1024_i32 : BitVec 32 := 1024#32
  let v0 : BitVec 32 := Scalar.muli arg1 c1024_i32
  let v40 : Index := Scalar.indexCast v0
  let c0_18 : Index := 0#32
  ![v40.toNat, 0]
def k0_cond2 (i : grid0.Coords) : BitVec 1 :=
  let arg1 : BitVec 32 := BitVec.ofNat 32 (i 1).val
  let c0_i32_29 : BitVec 32 := 0#32
  let v78 : BitVec 1 := Scalar.cmpi .eq arg1 c0_i32_29
  let v79 : BitVec 32 := Scalar.extui v78
  let c0_i32_30 : BitVec 32 := 0#32
  let v80 : BitVec 1 := Scalar.cmpi .ne v79 c0_i32_30
  v80

def k0_cond3 (i : grid0.Coords) : BitVec 1 :=
  let arg1 : BitVec 32 := BitVec.ofNat 32 (i 1).val
  let c0_i32_31 : BitVec 32 := 0#32
  let v81 : BitVec 1 := Scalar.cmpi .sgt arg1 c0_i32_31
  let v82 : BitVec 32 := Scalar.extui v81
  let c0_i32_32 : BitVec 32 := 0#32
  let v83 : BitVec 1 := Scalar.cmpi .ne v82 c0_i32_32
  v83

def k0_cond4 (i : grid0.Coords) : BitVec 1 :=
  let arg1 : BitVec 32 := BitVec.ofNat 32 (i 1).val
  let c1_i32 : BitVec 32 := 1#32
  let v84 : BitVec 1 := Scalar.cmpi .eq arg1 c1_i32
  let v85 : BitVec 32 := Scalar.extui v84
  let c0_i32_33 : BitVec 32 := 0#32
  let v86 : BitVec 1 := Scalar.cmpi .ne v85 c0_i32_33
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S1x2048x1024 : Shape := ⟨3, ![1, 2048, 1024]⟩
abbrev S8x1024 : Shape := ⟨2, ![8, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S2048x1024 : Shape := ⟨2, ![2048, 1024]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S8 : Shape := ⟨1, ![8]⟩
abbrev S2048x8x1 : Shape := ⟨3, ![2048, 8, 1]⟩
abbrev S1x1x8 : Shape := ⟨3, ![1, 1, 8]⟩
abbrev S2048x8x8 : Shape := ⟨3, ![2048, 8, 8]⟩
abbrev S2048x8x2 : Shape := ⟨3, ![2048, 8, 2]⟩
abbrev S2048x8x2048 : Shape := ⟨3, ![2048, 8, 2048]⟩
abbrev S1x8x2048 : Shape := ⟨3, ![1, 8, 2048]⟩
abbrev S2048x8x1024 : Shape := ⟨3, ![2048, 8, 1024]⟩
abbrev S1x8x1024 : Shape := ⟨3, ![1, 8, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S2048x1024, .f32⟩
  | .hbm, ⟨7, _⟩ => ⟨S1024x8, .f32⟩
  | .hbm, ⟨8, _⟩ => ⟨S2048x8, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x1, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .i32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .i1⟩
  | .hbm, ⟨37, _⟩ => ⟨S_, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S2048x8x1, .i32⟩
  | .hbm, ⟨60, _⟩ => ⟨S1x1x8, .i32⟩
  | .hbm, ⟨61, _⟩ => ⟨S2048x8x8, .i32⟩
  | .hbm, ⟨62, _⟩ => ⟨S2048x8x8, .i32⟩
  | .hbm, ⟨63, _⟩ => ⟨S2048x8x8, .i1⟩
  | .hbm, ⟨64, _⟩ => ⟨S2048x8x8, .i32⟩
  | .hbm, ⟨65, _⟩ => ⟨S_, .i32⟩
  | .hbm, ⟨66, _⟩ => ⟨S2048x8, .i32⟩
  | .hbm, ⟨67, _⟩ => ⟨S2048x8, .f32⟩
  | .hbm, ⟨68, _⟩ => ⟨S_, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2048x8, .f32⟩
  | .hbm, ⟨82, _⟩ => ⟨S2048, .i32⟩
  | .hbm, ⟨83, _⟩ => ⟨S2048x1, .i32⟩
  | .hbm, ⟨84, _⟩ => ⟨S_, .i32⟩
  | .hbm, ⟨85, _⟩ => ⟨S2048x1, .i32⟩
  | .hbm, ⟨86, _⟩ => ⟨S2048x1, .i1⟩
  | .hbm, ⟨87, _⟩ => ⟨S_, .i32⟩
  | .hbm, ⟨88, _⟩ => ⟨S2048x1, .i32⟩
  | .hbm, ⟨89, _⟩ => ⟨S2048x1, .i32⟩
  | .hbm, ⟨90, _⟩ => ⟨S2048x1, .i32⟩
  | .hbm, ⟨91, _⟩ => ⟨S_, .i32⟩
  | .hbm, ⟨92, _⟩ => ⟨S2048x8, .i32⟩
  | .hbm, ⟨93, _⟩ => ⟨S2048x8, .i1⟩
  | .hbm, ⟨94, _⟩ => ⟨S_, .i32⟩
  | .hbm, ⟨95, _⟩ => ⟨S2048x8, .i32⟩
  | .hbm, ⟨96, _⟩ => ⟨S2048x8, .i32⟩
  | .hbm, ⟨97, _⟩ => ⟨S2048x8, .i32⟩
  | .hbm, ⟨98, _⟩ => ⟨S2048x8, .i32⟩
  | .hbm, ⟨99, _⟩ => ⟨S2048x8x1, .i32⟩
  | .hbm, ⟨100, _⟩ => ⟨S2048x8x1, .i32⟩
  | .hbm, ⟨101, _⟩ => ⟨S2048x8x2, .i32⟩
  | .hbm, ⟨102, _⟩ => ⟨S2048x8, .f32⟩
  | .hbm, ⟨103, _⟩ => ⟨S2048x8x2048, .f32⟩
  | .hbm, ⟨104, _⟩ => ⟨S1x8x2048, .f32⟩
  | .hbm, ⟨105, _⟩ => ⟨S2048x8x2048, .f32⟩
  | .hbm, ⟨106, _⟩ => ⟨S2048x8x2048, .f32⟩
  | .hbm, ⟨107, _⟩ => ⟨S2048x8x2048, .f32⟩
  | .hbm, ⟨108, _⟩ => ⟨S2048x8x2048, .f32⟩
  | .hbm, ⟨109, _⟩ => ⟨S_, .f32⟩
  | .hbm, ⟨110, _⟩ => ⟨S2048x8x2048, .f32⟩
  | .hbm, ⟨111, _⟩ => ⟨S2048x8x2048, .f32⟩
  | .hbm, ⟨112, _⟩ => ⟨S_, .f32⟩
  | .hbm, ⟨113, _⟩ => ⟨S2048x8x2048, .f32⟩
  | .hbm, ⟨114, _⟩ => ⟨S2048x8x2048, .f32⟩
  | .hbm, ⟨115, _⟩ => ⟨S2048x8x2048, .f32⟩
  | .hbm, ⟨116, _⟩ => ⟨S8x1024x2048, .f32⟩
  | .hbm, ⟨117, _⟩ => ⟨S2048x8x1024, .f32⟩
  | .hbm, ⟨118, _⟩ => ⟨S1x8x1024, .f32⟩
  | .hbm, ⟨119, _⟩ => ⟨S2048x8x1024, .f32⟩
  | .hbm, ⟨120, _⟩ => ⟨S2048x8x1024, .f32⟩
  | .hbm, ⟨121, _⟩ => ⟨S2048x1024, .f32⟩
  | .hbm, ⟨122, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v37 : Ref sig .tc := ⟨.hbm, 64, rfl⟩
abbrev main_c : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_cst_15 : Ref sig .tc := ⟨.hbm, 78, rfl⟩
abbrev main_v46 : Ref sig .tc := ⟨.hbm, 79, rfl⟩
abbrev main_cst_16 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_17 : Ref sig .tc := ⟨.hbm, 84, rfl⟩
abbrev main_v50 : Ref sig .tc := ⟨.hbm, 85, rfl⟩
abbrev main_v51 : Ref sig .tc := ⟨.hbm, 86, rfl⟩
abbrev main_c_18 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_19 : Ref sig .tc := ⟨.hbm, 91, rfl⟩
abbrev main_v55 : Ref sig .tc := ⟨.hbm, 92, rfl⟩
abbrev main_v56 : Ref sig .tc := ⟨.hbm, 93, rfl⟩
abbrev main_c_20 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩

abbrev nD : Nat := 1
abbrev τ : Topo := Topo.v7x

variable {F : FTy → Type} [FloatOps F]
-- ==== Proof.KernelFrame.lean ====
/- The kernel's frame: it runs, its arguments end unchanged and every counter reads zero. The written windows are forgotten: nothing is
   said of what the kernel leaves there. The three cases of the body's branches are run one by one. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v2, main_v3, main_v4}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 3 rfl).trans ((hA c 3).trans (V_main_arg4 m c)),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 2 — by arithmetic of the point. -/
theorem hcond0_0 : ∀ t : Fin cfg0.N, cond0_0 (grid0.coords t) ↔ t.val < 2 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val < 2)

/-- The condition of the body's `scf.if` 1 (`k0_h2`), from the grid coordinates (the skeleton's scalar
    chain substituted). -/
abbrev cond0_1 (i : grid0.Coords) : Prop := k0_cond2 i = 1#1
/-- It holds at the points ≡ 0 (mod 2) — by arithmetic of the point. -/
theorem hcond0_1 : ∀ t : Fin cfg0.N, cond0_1 (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-- The condition of the body's `scf.if` 3 (`k0_h4`), from the grid coordinates (the skeleton's scalar
    chain substituted). -/
abbrev cond0_3 (i : grid0.Coords) : Prop := k0_cond4 i = 1#1
/-- It holds at the points ≡ 1 (mod 2) — by arithmetic of the point. -/
theorem hcond0_3 : ∀ t : Fin cfg0.N, cond0_3 (grid0.coords t) ↔ t.val % 2 = 1 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_3, k0_cond4, e0, e1]
    word_cmp
   : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at the points before point 2 — by arithmetic of the point. -/
theorem hcond0_4 : ∀ t : Fin cfg0.N, cond0_4 (grid0.coords t) ↔ t.val < 2 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_4, k0_cond5, e0, e1]
    word_cmp
   : ∀ t : Fin grid0.N, cond0_4 (grid0.coords t) ↔ t.val < 2)

/-- The condition of the body's `scf.if` 5 (`k0_h6`), from the grid coordinates (the skeleton's scalar
    chain substituted). -/
abbrev cond0_5 (i : grid0.Coords) : Prop := k0_cond6 i = 1#1
/-- It holds at the points from point 2 on — decided over the grid. -/
theorem hcond0_5 : ∀ t : Fin cfg0.N, cond0_5 (grid0.coords t) ↔ 2 ≤ t.val :=
  (by decide +kernel : ∀ t : Fin grid0.N, cond0_5 (grid0.coords t) ↔ 2 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x8 .f32 := Memref.whole cc0_scratch0
abbrev scM0_1 : Memref sig .tc .vmem S2048x1024 .bf16 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The body's triple IN CASE A (`scf.if` 0 taken, `scf.if` 1 taken, `scf.if` 2 not taken, `scf.if` 3 not taken, `scf.if` 4 taken, `scf.if` 5 not taken: points 0): on whole staging memrefs — the inputs' at their contents,
    the FORGOTTEN outputs' (4, 5, 6) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg2 : Memref sig .tc .vmem S2048x1024 .f32) (harg2 : arg2.IsWhole) (arg3 : Memref sig .tc .vmem S8x1024 .f32) (harg3 : arg3.IsWhole) (arg4 : Memref sig .tc .vmem S1x1024x2048 .f32) (harg4 : arg4.IsWhole) (arg5 : Memref sig .tc .vmem S1x2048x1024 .f32) (harg5 : arg5.IsWhole) (arg6 : Memref sig .tc .vmem S2048x1024 .f32) (harg6 : arg6.IsWhole) (arg7 : Memref sig .tc .smem S1x1 .f32) (harg7 : arg7.IsWhole) (arg8 : Memref sig .tc .smem S1x1 .f32) (harg8 : arg8.IsWhole) (arg9 : Memref sig .tc .vmem S2048x8 .f32) (harg9 : arg9.IsWhole) (arg10 : Memref sig .tc .vmem S2048x1024 .bf16) (harg10 : arg10.IsWhole) (hc0 : cond0_0 i) (hc1 : cond0_1 i) (hc2 : ¬cond0_2 i) (hc3 : ¬cond0_3 i) (hc4 : cond0_4 i) (hc5 : ¬cond0_5 i)
    (x0 : Vec F S2048x1024 .f32) (x1 : Vec F S8x1024 .f32) (x2 : Vec F S1x1024x2048 .f32) (x3 : Vec F S1x2048x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__moe_body i arg2 harg2 arg3 harg3 arg4 harg4 arg5 harg5 arg6 harg6 arg7 harg7 arg8 harg8 arg9 harg9 arg10 harg10) K := by
    intro E K
    simp only [cc0__moe_body_eq_skeleton]; unfold cc0__moe_body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

set_option maxHeartbeats 1000000 in
/-- The body's triple IN CASE B (`scf.if` 0 taken, `scf.if` 1 not taken, `scf.if` 2 taken, `scf.if` 3 taken, `scf.if` 4 taken, `scf.if` 5 not taken: points 1): on whole staging memrefs — the inputs' at their contents,
    the FORGOTTEN outputs' (4, 5, 6) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg2 : Memref sig .tc .vmem S2048x1024 .f32) (harg2 : arg2.IsWhole) (arg3 : Memref sig .tc .vmem S8x1024 .f32) (harg3 : arg3.IsWhole) (arg4 : Memref sig .tc .vmem S1x1024x2048 .f32) (harg4 : arg4.IsWhole) (arg5 : Memref sig .tc .vmem S1x2048x1024 .f32) (harg5 : arg5.IsWhole) (arg6 : Memref sig .tc .vmem S2048x1024 .f32) (harg6 : arg6.IsWhole) (arg7 : Memref sig .tc .smem S1x1 .f32) (harg7 : arg7.IsWhole) (arg8 : Memref sig .tc .smem S1x1 .f32) (harg8 : arg8.IsWhole) (arg9 : Memref sig .tc .vmem S2048x8 .f32) (harg9 : arg9.IsWhole) (arg10 : Memref sig .tc .vmem S2048x1024 .bf16) (harg10 : arg10.IsWhole) (hc0 : cond0_0 i) (hc1 : ¬cond0_1 i) (hc2 : cond0_2 i) (hc3 : cond0_3 i) (hc4 : cond0_4 i) (hc5 : ¬cond0_5 i)
    (x0 : Vec F S2048x1024 .f32) (x1 : Vec F S8x1024 .f32) (x2 : Vec F S1x1024x2048 .f32) (x3 : Vec F S1x2048x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__moe_body i arg2 harg2 arg3 harg3 arg4 harg4 arg5 harg5 arg6 harg6 arg7 harg7 arg8 harg8 arg9 harg9 arg10 harg10) K := by
    intro E K
    simp only [cc0__moe_body_eq_skeleton]; unfold cc0__moe_body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

set_option maxHeartbeats 1000000 in
/-- The body's triple IN CASE C (`scf.if` 0 not taken, `scf.if` 4 not taken, `scf.if` 5 taken: points 2, 3, … 15: 14 of 16): on whole staging memrefs — the inputs' at their contents,
    the FORGOTTEN outputs' (4, 5, 6) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_C (c : Dev nD) (i : grid0.Coords) (arg2 : Memref sig .tc .vmem S2048x1024 .f32) (harg2 : arg2.IsWhole) (arg3 : Memref sig .tc .vmem S8x1024 .f32) (harg3 : arg3.IsWhole) (arg4 : Memref sig .tc .vmem S1x1024x2048 .f32) (harg4 : arg4.IsWhole) (arg5 : Memref sig .tc .vmem S1x2048x1024 .f32) (harg5 : arg5.IsWhole) (arg6 : Memref sig .tc .vmem S2048x1024 .f32) (harg6 : arg6.IsWhole) (arg7 : Memref sig .tc .smem S1x1 .f32) (harg7 : arg7.IsWhole) (arg8 : Memref sig .tc .smem S1x1 .f32) (harg8 : arg8.IsWhole) (arg9 : Memref sig .tc .vmem S2048x8 .f32) (harg9 : arg9.IsWhole) (arg10 : Memref sig .tc .vmem S2048x1024 .bf16) (harg10 : arg10.IsWhole) (hc0 : ¬cond0_0 i) (hc4 : ¬cond0_4 i) (hc5 : cond0_5 i)
    (x0 : Vec F S2048x1024 .f32) (x1 : Vec F S8x1024 .f32) (x2 : Vec F S1x1024x2048 .f32) (x3 : Vec F S1x2048x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__moe_body i arg2 harg2 arg3 harg3 arg4 harg4 arg5 harg5 arg6 harg6 arg7 harg7 arg8 harg8 arg9 harg9 arg10 harg10) K := by
    intro E K
    simp only [cc0__moe_body_eq_skeleton]; unfold cc0__moe_body_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val < 2
  · by_cases h1 : t.val % 2 = 0
    · by_cases h2 : t.val % 2 = 1
      · exfalso; omega
      · by_cases h3 : t.val % 2 = 1
        · exfalso; omega
        · by_cases h4 : t.val < 2
          · by_cases h5 : 2 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t)) Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexists _; iexact H6
              isplitl [HS0]; · iexact HS0
              isplitl [HS1]; · iexact HS1
              iintro ⟨H0, H1, H2, H3, H4, H5, H6, HS0, HS1⟩
              isplitl [HS0 HS1 Hg]
              · isplitl [HS0 HS1]
                · isplitl [HS0]
                  · iexact HS0
                  iexact HS1
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              iexact H6
          · exfalso; omega
    · by_cases h2 : t.val % 2 = 1
      · by_cases h3 : t.val % 2 = 1
        · by_cases h4 : t.val < 2
          · by_cases h5 : 2 ≤ t.val
            · exfalso; omega
            · rw [show (dats m 0 c).leavesExact 0 t = owns (c : Thread nD τ) (ms0_0 t) fullShare ((dats m 0 c).after 0 t) from by
      unfold Dat.leavesExact; rw [liveAt0_0 t], after0_0]
              rw [show (dats m 0 c).leavesExact 1 t = owns (c : Thread nD τ) (ms0_1 t) fullShare ((dats m 0 c).after 1 t) from by
      unfold Dat.leavesExact; rw [liveAt0_1 t], after0_1]
              rw [show (dats m 0 c).leavesExact 2 t = owns (c : Thread nD τ) (ms0_2 t) fullShare ((dats m 0 c).after 2 t) from by
      unfold Dat.leavesExact; rw [liveAt0_2 t], after0_2]
              rw [show (dats m 0 c).leavesExact 3 t = owns (c : Thread nD τ) (ms0_3 t) fullShare ((dats m 0 c).after 3 t) from by
      unfold Dat.leavesExact; rw [liveAt0_3 t], after0_3]
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_B c (grid0.coords t) _ _ _ _ _ _ _ _ _ _ _ _ _ _ _ _ _ _ ((hcond0_0 t).mpr h0) (fun h => h1 ((hcond0_1 t).mp h)) ((hcond0_2 t).mpr h2) ((hcond0_3 t).mpr h3) ((hcond0_4 t).mpr h4) (fun h => h5 ((hcond0_5 t).mp h)) (iblk m c 0 t) (iblk m c 1 t) (iblk m c 2 t) (iblk m c 3 t)) Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [H6]; · iexists _; iexact H6
              isplitl [HS0]; · iexact HS0
              isplitl [HS1]; · iexact HS1
              iintro ⟨H0, H1, H2, H3, H4, H5, H6, HS0, HS1⟩
              isplitl [HS0 HS1 Hg]
              · isplitl [HS0 HS1]
                · isplitl [HS0]
                  · iexact HS0
                  iexact HS1
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              iexact H6
          · exfalso; omega
        · exfalso; omega
      · exfalso; omega
  · by_cases h4 : t.val < 2
    · exfalso; omega
    · by_cases h5 : 2 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) (fun h => h4 ((hcond0_4 t).mp h)) ((hcond0_5 t).mpr h5) (iblk m c 0 t) (iblk m c 1 t) (iblk m c 2 t) (iblk m c 3 t)) Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  unchanged_of m ρ (fun c => (dats m 0 c).toRForget forgets0) (A_eq m) (run_main m ρ)

/-- The frame: the arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Pre.lean ====
/- The precondition: the side conditions its printed function states, and what it says — both biases are zero everywhere. -/
module

public import proofs.«01_k».proof.Defs
public import Idealize.ShloMosaic.Lib.ReduceAll
public import Idealize.ShloMosaic.Lib.ValueIdx
public import Idealize.ShloMosaic.PureOps.Ideal.Laws

@[expose] public section

set_option maxRecDepth 16384

noncomputable section

namespace Cert.Pre_zero_biases.Hand

open Cert.Pre_zero_biases
open Idealize.ShloMosaic

/-- The function's side conditions hold. -/
instance facts : Cert.Pre_zero_biases.Facts where
  bcast_S_S8x2048 := by decide
  reducesTo_S8x2048_S_d0_1 := by decide
  h_S_ := by decide
  bcast_S_S8x1024 := by decide
  reducesTo_S8x1024_S_d0_1 := by decide

instance one_index : Subsingleton S_.Idx := ⟨fun a b => funext fun k => k.elim0⟩

/-- Two extended reals that compare equal are equal. -/
theorem eq_of_oeq (a b : EReal) (h : Scalar.cmpf (F := Ideal) (φ := .f32) .oeq a b = 1#1) : a = b := by
  by_contra hne
  have e : Scalar.cmpf (F := Ideal) (φ := .f32) .oeq a b = BitVec.ofBool (decide (a = b)) := rfl
  rw [e, decide_eq_false hne] at h
  exact absurd h (by decide)

/-- The precondition of six arrays says that the fourth and the sixth are zero everywhere. -/
theorem zero (x0 : FVec Ideal S1x2048x1024 .f32) (x1 : FVec Ideal S8x1024 .f32) (x2 : FVec Ideal S8x1024x2048 .f32)
    (x3 : FVec Ideal S8x2048 .f32) (x4 : FVec Ideal S8x2048x1024 .f32) (x5 : FVec Ideal S8x1024 .f32)
    (h : Cert.Pre_zero_biases.fn x0 x1 x2 x3 x4 x5 = fun _ => 1#1) : (∀ i, x3 i = (0 : EReal)) ∧ ∀ i, x5 i = (0 : EReal) := by
  have e := congrFun h (fun k => k.elim0)
  unfold Cert.Pre_zero_biases.fn at e
  obtain ⟨e3, e5⟩ := IntOp.andi_eq_one.mp e
  exact ⟨fun i => (eq_of_oeq _ _ (Host.reduce_andi_all _ _ _ _ _ e3 i)).trans Ideal.ofBits_zero_f32,
    fun i => (eq_of_oeq _ _ (Host.reduce_andi_all _ _ _ _ _ e5 i)).trans Ideal.ofBits_zero_f32⟩

end Cert.Pre_zero_biases.Hand

end
-- ==== Proof.Cases.lean ====
/- What the runs of the idealized kernel's body share: the conditions of the body's branches in closed form over the grid points, the staging and
   scratch memrefs as the pipeline passes them, and the class invariant with the scratch buffers spelled out. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert of grid point `t`. -/
theorem coord0 (t : Fin cfg0.N) : (grid0.coords t 0).val = t.val / 2 := by
  have ht : t.val < 16 := Nat.lt_of_lt_of_eq t.isLt N_0
  have e : (grid0.coords t 0).val = t.val / 2 % 8 := Pipeline.Grid.coords_val t 0 (by decide) rfl
  omega

/-- The token tile of grid point `t`. -/
theorem coord1 (t : Fin cfg0.N) : (grid0.coords t 1).val = t.val % 2 := by
  have e : (grid0.coords t 1).val = t.val / 1 % 2 := Pipeline.Grid.coords_val t 1 (by decide) rfl
  omega

/-- The router branch runs for expert 0 only. -/
theorem cond1_iff (t : Fin cfg0.N) : k0_cond1 (grid0.coords t) = 1#1 ↔ t.val < 2 := by
  have ht : t.val < 16 := Nat.lt_of_lt_of_eq t.isLt N_0
  simp only [k0_cond1, coord0]
  word_cmp

/-- The partial sums are started at tile 0. -/
theorem cond2_iff (t : Fin cfg0.N) : k0_cond2 (grid0.coords t) = 1#1 ↔ t.val % 2 = 0 := by
  have ht : t.val < 16 := Nat.lt_of_lt_of_eq t.isLt N_0
  simp only [k0_cond2, coord1]
  word_cmp

/-- The partial sums are added to at tile 1. -/
theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)

/-- The partial sums are finished at tile 1. -/
theorem cond4_iff (t : Fin cfg0.N) : k0_cond4 (grid0.coords t) = 1#1 ↔ t.val % 2 = 1 := by
  have ht : t.val < 16 := Nat.lt_of_lt_of_eq t.isLt N_0
  simp only [k0_cond4, coord1]
  word_cmp

/-- The output rows are stored for expert 0. -/
theorem cond5_iff (t : Fin cfg0.N) : k0_cond5 (grid0.coords t) = 1#1 ↔ t.val < 2 := by
  have ht : t.val < 16 := Nat.lt_of_lt_of_eq t.isLt N_0
  simp only [k0_cond5, coord0]
  word_cmp

/-- The output rows are added to for every later expert. -/
theorem cond6_iff : ∀ t : Fin cfg0.N, k0_cond6 (grid0.coords t) = 1#1 ↔ 2 ≤ t.val :=
  (by decide +kernel : ∀ t : Fin grid0.N, k0_cond6 (grid0.coords t) = 1#1 ↔ 2 ≤ t.val)

/-- Each window's current staging memref at point `t`. -/
abbrev ms0 (t : Fin cfg0.N) : Memref sig .tc .vmem S2048x1024 .f32 := win0_0.stage (cfg0.slots t 0)
abbrev ms1 (t : Fin cfg0.N) : Memref sig .tc .vmem S8x1024 .f32 := win0_1.stage (cfg0.slots t 1)
abbrev ms2 (t : Fin cfg0.N) : Memref sig .tc .vmem S1x1024x2048 .f32 := win0_2.stage (cfg0.slots t 2)
abbrev ms3 (t : Fin cfg0.N) : Memref sig .tc .vmem S1x2048x1024 .f32 := win0_3.stage (cfg0.slots t 3)
abbrev ms4 (t : Fin cfg0.N) : Memref sig .tc .vmem S2048x1024 .f32 := win0_4.stage (cfg0.slots t 4)
abbrev ms5 (t : Fin cfg0.N) : Memref sig .tc .smem S1x1 .f32 := win0_5.stage (cfg0.slots t 5)
abbrev ms6 (t : Fin cfg0.N) : Memref sig .tc .smem S1x1 .f32 := win0_6.stage (cfg0.slots t 6)
/-- The two scratch buffers: the combine weights and the tokens. -/
abbrev scW : Memref sig .tc .vmem S2048x8 .f32 := Memref.whole cc0_scratch0
abbrev scX : Memref sig .tc .vmem S2048x1024 .bf16 := Memref.whole cc0_scratch1

/-- The class invariant with the scratch buffers as memrefs owned at some contents. -/
theorem PhiA_eq (c : Dev nD) :
    (Pipeline.ΦA spec0 c : sProp 𝕄)
      = iprop(iprop((∃ d, owns (c : Thread nD τ) scW fullShare d) ∗ (∃ d, owns (c : Thread nD τ) scX fullShare d)) ∗ (∃ r, prngReg c r)) := by
  unfold Pipeline.ΦA; rw [scopedRest0_eq]; simp only [scW, scX, owns_whole]; try rfl

end Cert.KernelIdeal.Hand

end
-- ==== Proof.Rows.lean ====
/- Row tiles of a two-dimensional array: the tile of 1024 rows number `n` of an array of 2048 rows, the array with that tile
   replaced, and the reading of whole-row loads and stores as these two. -/
module

public import Idealize.ShloMosaic.Lib.WritesUnit
public import Idealize.ShloMosaic.Lib.Pipeline.ValueKit.Tiles
public import Idealize.ShloMosaic.Lib.ValueIdx

@[expose] public section

namespace Cert.Rows

open Idealize.ShloMosaic

variable {α : Type} {k : ℕ}

/-- An array of 2048 rows. -/
abbrev Full (k : ℕ) : Shape := ⟨2, ![2048, k]⟩
/-- A tile of 1024 rows. -/
abbrev Part (k : ℕ) : Shape := ⟨2, ![1024, k]⟩

/-- Rows `1024 * n` to `1024 * n + 1023` of `X`. -/
def tile (n : Fin 2) (X : (Full k).Idx → α) : (Part k).Idx → α := fun j =>
  X (ValueIdx.ix2 ⟨1024 * n.val + (j 0).val, by have h : (j 0).val < 1024 := (j 0).isLt; have := n.isLt; show _ < 2048; omega⟩
    ⟨(j 1).val, (j 1).isLt⟩)

/-- The position of row `y 0` inside its own tile. -/
def inTile (y : (Full k).Idx) : (Part k).Idx :=
  ValueIdx.ix2 ⟨(y 0).val % 1024, Nat.mod_lt _ (by decide)⟩ ⟨(y 1).val, (y 1).isLt⟩

/-- `X` with its tile number `n` replaced by `T`. -/
def put (n : Fin 2) (X : (Full k).Idx → α) (T : (Part k).Idx → α) : (Full k).Idx → α := fun y =>
  if (y 0).val / 1024 = n.val then T (inTile y) else X y

/-- The replaced tile is the new one. -/
theorem tile_put (n : Fin 2) (X : (Full k).Idx → α) (T : (Part k).Idx → α) : tile n (put n X T) = T := by
  funext j
  have h : (j 0).val < 1024 := (j 0).isLt
  have hd : (1024 * n.val + (j 0).val) / 1024 = n.val := by omega
  refine (if_pos hd).trans (congrArg T ?_)
  funext a
  match a with
  | 0 => exact Fin.ext (show (1024 * n.val + (j 0).val) % 1024 = (j 0).val by omega)
  | 1 => rfl

/-- The other tile is kept. -/
theorem tile_put_ne {n n' : Fin 2} (hn : n' ≠ n) (X : (Full k).Idx → α) (T : (Part k).Idx → α) :
    tile n' (put n X T) = tile n' X := by
  funext j
  have h : (j 0).val < 1024 := (j 0).isLt
  have hd : ¬ (1024 * n'.val + (j 0).val) / 1024 = n.val := fun e => hn (Fin.ext (by omega))
  exact if_neg hd

/-- An element of an array is the element of the tile its row is in. -/
theorem eq_tile (X : (Full k).Idx → α) (y : (Full k).Idx) :
    X y = tile ⟨(y 0).val / 1024, by have h : (y 0).val < 2048 := (y 0).isLt; omega⟩ X (inTile y) := by
  unfold tile inTile
  congr 1
  funext a
  match a with
  | 0 => exact Fin.ext (show (y 0).val = 1024 * ((y 0).val / 1024) + (y 0).val % 1024 by omega)
  | 1 => rfl

section Views

variable {sig : RefSig} {κ : Kind} {sp : Space} {e : EltTy} {Val : EltTy → Type} (v : View sig κ sp (Full k) e) (f : v.ty.Contents Val)

/-- A store of a whole tile leaves the array with that tile replaced. -/
theorem read_writes_tile (n : Fin 2) {off : Fin 2 → ℕ} (inb : ∀ a : Fin 2, off a + (![1024, k] : Fin 2 → ℕ) a ≤ (![2048, k] : Fin 2 → ℕ) a)
    (hoff : off = ![1024 * n.val, 0]) (p : (Part k).Idx → Val e) :
    v.read Val (v.writes Val f [(⟨Rect.unit (s := Full k) off ![1024, k] inb, p⟩ : View.Piece Val (Full k) e)]) = put n (v.read Val f) p := by
  funext y
  have h0 : (y 0).val < 2048 := (y 0).isLt
  have hn := n.isLt
  unfold put
  split
  · rename_i h
    refine View.read_writes_cons_rows_of_mem v f inb p [] y (inTile y) hoff ?_ rfl
    show (y 0).val = 1024 * n.val + (y 0).val % 1024
    omega
  · rename_i h
    rw [View.read_writes_cons_rows_of_not_mem v f inb p [] y hoff (W := 1024) rfl (by omega)]
    rfl

/-- A load of a whole tile reads that tile. -/
theorem readAt_tile (n : Fin 2) {off : Fin 2 → ℕ} (inb : ∀ a : Fin 2, off a + (![1024, k] : Fin 2 → ℕ) a ≤ (![2048, k] : Fin 2 → ℕ) a)
    (hoff : off = ![1024 * n.val, 0]) :
    v.readAt Val (Rect.unit (s := Full k) off ![1024, k] inb).toLoadRect f = tile n (v.read Val f) := by
  subst hoff
  funext j
  rw [View.readAt_eq_ld]
  refine Idealize.ShloMosaic.View.ld_unit_apply_of _ _ _ _ _ _ fun a => ?_
  match a with
  | 0 => rfl
  | 1 => exact (Nat.zero_add _).symm

/-- A load of the whole tile stored last reads what was stored. -/
theorem readCov_tile [∀ e, Nonempty (Val e)] (n : Fin 2) {off off' : Fin 2 → ℕ}
    (inb : ∀ a : Fin 2, off a + (![1024, k] : Fin 2 → ℕ) a ≤ (![2048, k] : Fin 2 → ℕ) a)
    (inb' : ∀ a : Fin 2, off' a + (![1024, k] : Fin 2 → ℕ) a ≤ (![2048, k] : Fin 2 → ℕ) a)
    (hoff : off = ![1024 * n.val, 0]) (hoff' : off' = ![1024 * n.val, 0]) (p : (Part k).Idx → Val e) :
    v.readCov [(⟨Rect.unit (s := Full k) off ![1024, k] inb, p⟩ : View.Piece Val (Full k) e)]
      (Rect.unit (s := Full k) off' ![1024, k] inb').toLoadRect = p := by
  unfold View.readCov
  rw [readAt_tile _ _ n inb' hoff', read_writes_tile _ _ n inb hoff, tile_put]

end Views

/-- A load of a whole array reads it. -/
theorem readAt_all {sig : RefSig} {κ : Kind} {sp : Space} {e : EltTy} {Val : EltTy → Type} {S : Shape} (v : View sig κ sp S e)
    (f : v.ty.Contents Val) {off : Fin S.rank → ℕ} (inb : ∀ a, off a + S.size a ≤ S.size a) (h : off = fun _ => 0) :
    v.readAt Val (Rect.unit off S.size inb).toLoadRect f = v.read Val f :=
  View.ld_unit_zero h inb (v.read Val f)

/-- A store of a whole array leaves what was stored. -/
theorem read_writes_all {sig : RefSig} {κ : Kind} {sp : Space} {e : EltTy} {Val : EltTy → Type} {S : Shape} (v : View sig κ sp S e)
    (f : v.ty.Contents Val) {off : Fin S.rank → ℕ} (inb : ∀ a, off a + S.size a ≤ S.size a) (h : off = fun _ => 0)
    (p : S.Idx → Val e) (L : List (View.Piece Val S e)) :
    v.read Val (v.writes Val f ((⟨Rect.unit off S.size inb, p⟩ : View.Piece Val S e) :: L)) = p :=
  funext fun y => View.read_writes_cons_unit_of_mem v f inb p L y y h fun _ => (Nat.zero_add _).symm

end Cert.Rows

end
-- ==== Proof.Body.lean ====
/- One call of the kernel body, at each of its three kinds of grid points: first expert and first tile, first expert and
   second tile, every later expert. Each theorem says what the call leaves in the output rows, in the two scalar results
   and in the two scratch buffers, as a function of what it found. -/
module

public import proofs.«01_k».proof.Proof.Cases
public import proofs.«01_k».proof.Proof.Rows

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The nine memrefs the body is called with: four inputs, the output rows, the two scalar results, the two scratch
    buffers; each covers its whole buffer. -/
structure Args where
  a2 : Memref sig .tc .vmem S2048x1024 .f32
  a3 : Memref sig .tc .vmem S8x1024 .f32
  a4 : Memref sig .tc .vmem S1x1024x2048 .f32
  a5 : Memref sig .tc .vmem S1x2048x1024 .f32
  a6 : Memref sig .tc .vmem S2048x1024 .f32
  a7 : Memref sig .tc .smem S1x1 .f32
  a8 : Memref sig .tc .smem S1x1 .f32
  a9 : Memref sig .tc .vmem S2048x8 .f32
  a10 : Memref sig .tc .vmem S2048x1024 .bf16
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole

/-- What the four input buffers hold. -/
structure Ins (F : FTy → Type) [FloatOps F] where
  x : Vec F S2048x1024 .f32
  wg : Vec F S8x1024 .f32
  w1 : Vec F S1x1024x2048 .f32
  w2 : Vec F S1x2048x1024 .f32

/-- What the five buffers the body writes hold. -/
structure Outs (F : FTy → Type) [FloatOps F] where
  out : Vec F S2048x1024 .f32
  z : Vec F S1x1 .f32
  aux : Vec F S1x1 .f32
  cw : Vec F S2048x8 .f32
  xs : Vec F S2048x1024 .bf16

/-- The nine buffers owned at the given contents. -/
def held (c : Dev nD) (a : Args) (I : Ins F) (O : Outs F) : sProp 𝕄 :=
  iprop(owns (c : Thread nD τ) a.a2 fullShare I.x ∗ owns (c : Thread nD τ) a.a3 fullShare I.wg ∗ owns (c : Thread nD τ) a.a4 fullShare I.w1
    ∗ owns (c : Thread nD τ) a.a5 fullShare I.w2 ∗ owns (c : Thread nD τ) a.a6 fullShare O.out ∗ owns (c : Thread nD τ) a.a7 fullShare O.z
    ∗ owns (c : Thread nD τ) a.a8 fullShare O.aux ∗ owns (c : Thread nD τ) a.a9 fullShare O.cw ∗ owns (c : Thread nD τ) a.a10 fullShare O.xs)

/-- The body's call at grid point `i` with the buffers `a` turns the contents `O` of the written buffers into `O'`. -/
def Runs (c : Dev nD) (i : grid0.Coords) (a : Args) (I : Ins F) (O O' : Outs F) : Prop :=
  ∀ (E : Set ℕ) (K : PUnit → sProp 𝕄), iprop(held c a I O ∗ (held c a I O' -∗ K ⟨⟩))
    ⊢ wp frame (wpE (defs₀ (F := F)) Variants.none c none) E
        (cc0__moe_body i a.a2 a.h2 a.a3 a.h3 a.a4 a.h4 a.a5 a.h5 a.a6 a.h6 a.a7 a.h7 a.a8 a.h8 a.a9 a.h9 a.a10 a.h10) K

/-- The expert's weighted contribution to a tile of output rows: from the tile of tokens `xt` and of combine weights `ct`. -/
abbrev part (i : grid0.Coords) (I : Ins F) (xt : Vec F S1024x1024 .bf16) (ct : Vec F S1024x8 .f32) : Vec F S1024x1024 .f32 :=
  k0_pay16 i xt I.w1 I.w2 ct

private theorem zero2 : (![0, 0] : Fin 2 → ℕ) = fun _ => 0 := by funext a; fin_cases a <;> rfl

private theorem zero3 : (![0, 0, 0] : Fin 3 → ℕ) = fun _ => 0 := by funext a; fin_cases a <;> rfl

private theorem first_eq (h : 0 < S1x1.numel) : (Shape.Idx.first (s := S1x1) h) = ValueIdx.ix2 0 0 := by
  funext a; fin_cases a <;> rfl

set_option maxHeartbeats 2000000 in
/-- The first expert at tile 0: the router's tile of combine weights and of rounded tokens is stored, the two scalars start at the tile's
    sums, and the contribution is stored as the tile of output rows. -/
theorem runs_start (c : Dev nD) (i : grid0.Coords) (a : Args) (I : Ins F) (O : Outs F)
    (hc1 : k0_cond1 i = 1#1) (hc2 : k0_cond2 i = 1#1) (hc3 : ¬k0_cond3 i = 1#1) (hc4 : ¬k0_cond4 i = 1#1) (hc5 : k0_cond5 i = 1#1) (hc6 : ¬k0_cond6 i = 1#1) :
    Runs c i a I O (let xt := tile (i 1) I.x
      { out := put (i 1) O.out (part i I (k0_pay3 xt) (k0_pay9 xt I.wg)), z := fun _ => k0_pay10 xt I.wg, aux := fun _ => k0_pay11 xt I.wg
        cw := put (i 1) O.cw (k0_pay9 xt I.wg), xs := put (i 1) O.xs (k0_pay3 xt) }) := by
  obtain ⟨arg2, arg3, arg4, arg5, arg6, arg7, arg8, arg9, arg10, harg2, harg3, harg4, harg5, harg6, harg7, harg8, harg9, harg10⟩ := a
  obtain ⟨x0, x1, x2, x3⟩ := I
  obtain ⟨y4, y5, y6, w, x⟩ := O
  intro E K
  simp only [held, cc0__moe_body_eq_skeleton]; unfold cc0__moe_body_skel
  simp only [k0_part2_eq_skeleton, k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩⟩, Hk⟩
  sl_exec (disch := first | sl_exact hc1 | sl_exact hc2 | sl_exact hc3 | sl_exact hc4 | sl_exact hc5 | sl_exact hc6)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    on_goal 2 => iexact H4
    ipureintro
    sl_unfold_run_names
    rw [read_writes_tile _ _ (i 1) _ (k0_off5_eq i), readCov_tile _ (i 1) _ _ (k0_off1_eq i) (k0_off3_eq i), readCov_tile _ (i 1) _ _ (k0_off2_eq i) (k0_off4_eq i), readAt_tile _ _ (i 1) _ (k0_off1_eq i), hf0, readAt_all arg3.view f1 _ zero2, hf1, readAt_all arg4.view f2 _ zero3, hf2, readAt_all arg5.view f3 _ zero3, hf3, hf4]
  isplitl [H5]
  · iexists _; isplitr
    on_goal 2 => iexact H5
    ipureintro
    sl_unfold_run_names
    rw [read_writes_all _ _ _ zero2, readAt_tile _ _ (i 1) _ (k0_off1_eq i), hf0, readAt_all arg3.view f1 _ zero2, hf1]; rfl
  isplitl [H6]
  · iexists _; isplitr
    on_goal 2 => iexact H6
    ipureintro
    sl_unfold_run_names
    rw [read_writes_all _ _ _ zero2, readAt_tile _ _ (i 1) _ (k0_off1_eq i), hf0, readAt_all arg3.view f1 _ zero2, hf1]; rfl
  isplitl [HS0]
  · iexists _; isplitr
    on_goal 2 => iexact HS0
    ipureintro
    sl_unfold_run_names
    rw [read_writes_tile _ _ (i 1) _ (k0_off2_eq i), readAt_tile _ _ (i 1) _ (k0_off1_eq i), hf0, readAt_all arg3.view f1 _ zero2, hf1, hs0]
  iexists _; isplitr
  on_goal 2 => iexact HS1
  ipureintro
  sl_unfold_run_names
  rw [read_writes_tile _ _ (i 1) _ (k0_off1_eq i), readAt_tile _ _ (i 1) _ (k0_off1_eq i), hf0, hs1]

set_option maxHeartbeats 2000000 in
/-- The first expert at tile 1: as at tile 0, but the two scalars add the tile's sums to what they held and are scaled. -/
theorem runs_finish (c : Dev nD) (i : grid0.Coords) (a : Args) (I : Ins F) (O : Outs F)
    (hc1 : k0_cond1 i = 1#1) (hc2 : ¬k0_cond2 i = 1#1) (hc3 : k0_cond3 i = 1#1) (hc4 : k0_cond4 i = 1#1) (hc5 : k0_cond5 i = 1#1) (hc6 : ¬k0_cond6 i = 1#1) :
    Runs c i a I O (let xt := tile (i 1) I.x
      { out := put (i 1) O.out (part i I (k0_pay3 xt) (k0_pay9 xt I.wg))
        z := fun _ => k0_pay14 (k0_pay12 (k0_pay10 xt I.wg) (O.z (ValueIdx.ix2 0 0)))
        aux := fun _ => k0_pay15 (k0_pay13 (k0_pay11 xt I.wg) (O.aux (ValueIdx.ix2 0 0)))
        cw := put (i 1) O.cw (k0_pay9 xt I.wg), xs := put (i 1) O.xs (k0_pay3 xt) }) := by
  obtain ⟨arg2, arg3, arg4, arg5, arg6, arg7, arg8, arg9, arg10, harg2, harg3, harg4, harg5, harg6, harg7, harg8, harg9, harg10⟩ := a
  obtain ⟨x0, x1, x2, x3⟩ := I
  obtain ⟨y4, y5, y6, w, x⟩ := O
  intro E K
  simp only [held, cc0__moe_body_eq_skeleton]; unfold cc0__moe_body_skel
  simp only [k0_part2_eq_skeleton, k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩⟩, Hk⟩
  sl_exec (disch := first | sl_exact hc1 | sl_exact hc2 | sl_exact hc3 | sl_exact hc4 | sl_exact hc5 | sl_exact hc6)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    on_goal 2 => iexact H4
    ipureintro
    sl_unfold_run_names
    rw [read_writes_tile _ _ (i 1) _ (k0_off5_eq i), readCov_tile _ (i 1) _ _ (k0_off1_eq i) (k0_off3_eq i), readCov_tile _ (i 1) _ _ (k0_off2_eq i) (k0_off4_eq i), readAt_tile _ _ (i 1) _ (k0_off1_eq i), hf0, readAt_all arg3.view f1 _ zero2, hf1, readAt_all arg4.view f2 _ zero3, hf2, readAt_all arg5.view f3 _ zero3, hf3, hf4]
  isplitl [H5]
  · iexists _; isplitr
    on_goal 2 => iexact H5
    ipureintro
    sl_unfold_run_names
    rw [read_writes_all _ _ _ zero2, readAt_tile _ _ (i 1) _ (k0_off1_eq i), hf0, readAt_all arg3.view f1 _ zero2, hf1, readAt_all _ _ _ zero2, hf5, first_eq]; rfl
  isplitl [H6]
  · iexists _; isplitr
    on_goal 2 => iexact H6
    ipureintro
    sl_unfold_run_names
    rw [read_writes_all _ _ _ zero2, readAt_tile _ _ (i 1) _ (k0_off1_eq i), hf0, readAt_all arg3.view f1 _ zero2, hf1, readAt_all _ _ _ zero2, hf6, first_eq]; rfl
  isplitl [HS0]
  · iexists _; isplitr
    on_goal 2 => iexact HS0
    ipureintro
    sl_unfold_run_names
    rw [read_writes_tile _ _ (i 1) _ (k0_off2_eq i), readAt_tile _ _ (i 1) _ (k0_off1_eq i), hf0, readAt_all arg3.view f1 _ zero2, hf1, hs0]
  iexists _; isplitr
  on_goal 2 => iexact HS1
  ipureintro
  sl_unfold_run_names
  rw [read_writes_tile _ _ (i 1) _ (k0_off1_eq i), readAt_tile _ _ (i 1) _ (k0_off1_eq i), hf0, hs1]

set_option maxHeartbeats 2000000 in
/-- A later expert adds its contribution to the tile of output rows and changes nothing else. -/
theorem runs_later (c : Dev nD) (i : grid0.Coords) (a : Args) (I : Ins F) (O : Outs F)
    (hc1 : ¬k0_cond1 i = 1#1) (hc5 : ¬k0_cond5 i = 1#1) (hc6 : k0_cond6 i = 1#1) :
    Runs c i a I O { O with out := put (i 1) O.out (k0_pay1 (part i I (tile (i 1) O.xs) (tile (i 1) O.cw)) (tile (i 1) O.out)) } := by
  obtain ⟨arg2, arg3, arg4, arg5, arg6, arg7, arg8, arg9, arg10, harg2, harg3, harg4, harg5, harg6, harg7, harg8, harg9, harg10⟩ := a
  obtain ⟨x0, x1, x2, x3⟩ := I
  obtain ⟨y4, y5, y6, w, x⟩ := O
  intro E K
  simp only [held, cc0__moe_body_eq_skeleton]; unfold cc0__moe_body_skel
  simp only [k0_part2_eq_skeleton, k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩⟩, Hk⟩
  sl_exec (disch := first | sl_exact hc1 | sl_exact hc5 | sl_exact hc6)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    on_goal 2 => iexact H4
    ipureintro
    sl_unfold_run_names
    rw [read_writes_tile _ _ (i 1) _ (k0_off6_eq i), readAt_tile _ _ (i 1) _ (k0_off6_eq i), readAt_tile _ _ (i 1) _ (k0_off3_eq i), readAt_tile _ _ (i 1) _ (k0_off4_eq i), hs0, hs1, readAt_all arg4.view f2 _ zero3, hf2, readAt_all arg5.view f3 _ zero3, hf3, hf4]
  isplitl [H5]
  · iexists _; isplitr; · ipureintro; exact hf5
    iexact H5
  isplitl [H6]
  · iexists _; isplitr; · ipureintro; exact hf6
    iexact H6
  isplitl [HS0]
  · iexists _; isplitr; · ipureintro; exact hs0
    iexact HS0
  iexists _; isplitr; · ipureintro; exact hs1
  iexact HS1

end Cert.KernelIdeal.Hand

end
-- ==== Proof.Data.lean ====
/- What the kernel's buffers hold between grid points, and that every call of the body keeps it: the body obligation of the
   pipeline with the three written windows held to a predicate. -/
module

public import proofs.«01_k».proof.Proof.Body
public import Idealize.ShloMosaic.Lib.Pipeline.DatRel

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The values -/

/-- Grid point number `n`. -/
def pt (n : ℕ) : Fin cfg0.N := ⟨n % 16, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- What the four input buffers hold at grid point `t`. -/
def ins (c : Dev nD) (t : Fin cfg0.N) : Ins F := ⟨iblk m c 0 t, iblk m c 1 t, iblk m c 2 t, iblk m c 3 t⟩

/-- Tile `s` of the tokens, as grid point `s` reads it, and the router's weights there. -/
def xt (c : Dev nD) (s : Fin 2) : Vec F S1024x1024 .f32 := tile s (ins m c (pt s.val)).x
def wg (c : Dev nD) (s : Fin 2) : Vec F S8x1024 .f32 := (ins m c (pt s.val)).wg

/-- Tile `s` of the combine weights and of the rounded tokens, as they stay in the scratch buffers. -/
def cwT (c : Dev nD) (s : Fin 2) : Vec F S1024x8 .f32 := k0_pay9 (xt m c s) (wg m c s)
def xsT (c : Dev nD) (s : Fin 2) : Vec F S1024x1024 .bf16 := k0_pay3 (xt m c s)

/-- Expert `e`'s contribution to tile `s` of the output rows. -/
def contrib (c : Dev nD) (s : Fin 2) (e : ℕ) : Vec F S1024x1024 .f32 :=
  part (grid0.coords (pt (2 * e + s.val))) (ins m c (pt (2 * e + s.val))) (xsT m c s) (cwT m c s)

/-- Tile `s` of the output rows after experts `0` to `e`. -/
def acc (c : Dev nD) (s : Fin 2) : ℕ → Vec F S1024x1024 .f32
  | 0 => contrib m c s 0
  | e + 1 => k0_pay1 (contrib m c s (e + 1)) (acc c s e)

/-- The router's z sum and auxiliary sum of tile `s`. -/
def zs (c : Dev nD) (s : Fin 2) : F .f32 := k0_pay10 (xt m c s) (wg m c s)
def axs (c : Dev nD) (s : Fin 2) : F .f32 := k0_pay11 (xt m c s) (wg m c s)

/-- The two scalar results. -/
def zAll (c : Dev nD) : F .f32 := k0_pay14 (k0_pay12 (zs m c 1) (zs m c 0))
def aAll (c : Dev nD) : F .f32 := k0_pay15 (k0_pay13 (axs m c 1) (axs m c 0))

/-! ## What holds before grid point `k` -/

/-- The output rows: each tile already visited holds the experts' contributions so far. -/
def KeptOut (c : Dev nD) (k : ℕ) (Y : Vec F S2048x1024 .f32) : Prop := ∀ s : Fin 2, s.val < k → tile s Y = acc m c s ((k - 1 - s.val) / 2)

/-- A scalar result: tile 0's sum after the first point, the finished value from the second on. -/
def KeptScalar (a b : F .f32) (k : ℕ) (Y : Vec F S1x1 .f32) : Prop := (k = 1 → Y = fun _ => a) ∧ (2 ≤ k → Y = fun _ => b)

/-- The scratch buffers: each tile already visited holds its combine weights and its rounded tokens. -/
def KeptScratch (c : Dev nD) (k : ℕ) (w : Vec F S2048x8 .f32) (x : Vec F S2048x1024 .bf16) : Prop :=
  ∀ s : Fin 2, s.val < k → tile s w = cwT m c s ∧ tile s x = xsT m c s

/-- All five written buffers. -/
structure Kept (c : Dev nD) (k : ℕ) (O : Outs F) : Prop where
  out : KeptOut m c k O.out
  z : KeptScalar (zs m c 0) (zAll m c) k O.z
  aux : KeptScalar (axs m c 0) (aAll m c) k O.aux
  scr : KeptScratch m c k O.cw O.xs

/-- The scratch buffers after the router's branch at point `n < 2`. -/
theorem keptScratch_step (c : Dev nD) (n : Fin 2) {w : Vec F S2048x8 .f32} {x : Vec F S2048x1024 .bf16} (h : KeptScratch m c n.val w x) :
    KeptScratch m c (n.val + 1) (put n w (cwT m c n)) (put n x (xsT m c n)) := fun s hs => by
  by_cases e : s = n
  · subst e; exact ⟨tile_put .., tile_put ..⟩
  · rw [tile_put_ne e, tile_put_ne e]
    exact h s (by have : s.val ≠ n.val := fun h => e (Fin.ext h); omega)

/-- The output rows after the store at point `n < 2`. -/
theorem keptOut_first (c : Dev nD) (n : Fin 2) {Y : Vec F S2048x1024 .f32} (h : KeptOut m c n.val Y) :
    KeptOut m c (n.val + 1) (put n Y (contrib m c n 0)) := fun s hs => by
  have hs2 := s.isLt
  have hn2 := n.isLt
  by_cases e : s = n
  · subst e
    rw [tile_put, show (s.val + 1 - 1 - s.val) / 2 = 0 by omega]; rfl
  · have hne : s.val ≠ n.val := fun h => e (Fin.ext h)
    rw [tile_put_ne e, h s (by omega)]
    congr 1; omega

/-- The output rows after the addition at point `2 * (e + 1) + n`. -/
theorem keptOut_later (c : Dev nD) (n : Fin 2) (e : ℕ) {Y : Vec F S2048x1024 .f32} (h : KeptOut m c (2 * (e + 1) + n.val) Y) :
    KeptOut m c (2 * (e + 1) + n.val + 1) (put n Y (k0_pay1 (contrib m c n (e + 1)) (tile n Y))) := fun s hs => by
  have hs2 := s.isLt
  have hn2 := n.isLt
  by_cases hsn : s = n
  · subst hsn
    rw [tile_put, h s (by omega), show (2 * (e + 1) + s.val - 1 - s.val) / 2 = e by omega,
      show (2 * (e + 1) + s.val + 1 - 1 - s.val) / 2 = e + 1 by omega]; rfl
  · have hne : s.val ≠ n.val := fun h => hsn (Fin.ext h)
    rw [tile_put_ne hsn, h s (by omega)]
    congr 1; omega

/-- Every call of the body keeps it. -/
theorem step (c : Dev nD) (t : Fin cfg0.N) (a : Args) (O : Outs F) (h : Kept m c t.val O) :
    ∃ O', Kept m c (t.val + 1) O' ∧ Runs c (grid0.coords t) a (ins m c t) O O' := by
  have ht : t.val < 16 := Nat.lt_of_lt_of_eq t.isLt N_0
  obtain ⟨n, hn⟩ : ∃ n : Fin 2, n = grid0.coords t 1 := ⟨_, rfl⟩
  have hnv : n.val = t.val % 2 := by rw [hn]; exact coord1 t
  by_cases h2 : t.val < 2
  · have htn : t = pt n.val := by rw [← pt_val t]; congr 1; omega
    have hk : t.val = n.val := by omega
    have h9 : k0_pay9 (tile n (ins m c t).x) (ins m c t).wg = cwT m c n := by rw [htn]; rfl
    have h3 : k0_pay3 (tile n (ins m c t).x) = xsT m c n := by rw [htn]; rfl
    have hC : part (grid0.coords t) (ins m c t) (xsT m c n) (cwT m c n) = contrib m c n 0 := by
      unfold contrib; rw [htn, show 2 * 0 + n.val = n.val by omega]
    have hz : k0_pay10 (tile n (ins m c t).x) (ins m c t).wg = zs m c n := by rw [htn]; rfl
    have ha : k0_pay11 (tile n (ins m c t).x) (ins m c t).wg = axs m c n := by rw [htn]; rfl
    have hout := keptOut_first m c n (hk ▸ h.out)
    have hscr := keptScratch_step m c n (hk ▸ h.scr)
    by_cases h0 : t.val = 0
    · have R := runs_start c (grid0.coords t) a (ins m c t) O ((cond1_iff t).mpr h2) ((cond2_iff t).mpr (by omega))
        (fun e => by have := (cond3_iff t).mp e; omega) (fun e => by have := (cond4_iff t).mp e; omega) ((cond5_iff t).mpr h2)
        (fun e => by have := (cond6_iff t).mp e; omega)
      simp only [← hn, h9, h3, hC, hz, ha] at R
      refine ⟨_, ⟨?_, ⟨fun _ => ?_, fun h => ?_⟩, ⟨fun _ => ?_, fun h => ?_⟩, ?_⟩, R⟩
      · rw [hk]; exact hout
      · rw [show n = 0 from Fin.ext (by show n.val = 0; omega)]
      · omega
      · rw [show n = 0 from Fin.ext (by show n.val = 0; omega)]
      · omega
      · rw [hk]; exact hscr
    · have R := runs_finish c (grid0.coords t) a (ins m c t) O ((cond1_iff t).mpr h2) (fun e => by have := (cond2_iff t).mp e; omega)
        ((cond3_iff t).mpr (by omega)) ((cond4_iff t).mpr (by omega)) ((cond5_iff t).mpr h2)
        (fun e => by have := (cond6_iff t).mp e; omega)
      simp only [← hn, h9, h3, hC, hz, ha] at R
      have n1 : n = 1 := Fin.ext (by show n.val = 1; omega)
      refine ⟨_, ⟨?_, ⟨fun h => ?_, fun _ => ?_⟩, ⟨fun h => ?_, fun _ => ?_⟩, ?_⟩, R⟩
      · rw [hk]; exact hout
      · omega
      · simp only [h.z.1 (by omega), n1]; rfl
      · omega
      · simp only [h.aux.1 (by omega), n1]; rfl
      · rw [hk]; exact hscr
  · obtain ⟨e, he⟩ : ∃ e, t.val = 2 * (e + 1) + n.val := ⟨t.val / 2 - 1, by omega⟩
    have R := runs_later c (grid0.coords t) a (ins m c t) O (fun e => by have := (cond1_iff t).mp e; omega)
      (fun e => by have := (cond5_iff t).mp e; omega) ((cond6_iff t).mpr (by omega))
    have hs := h.scr n (by omega)
    have hC : part (grid0.coords t) (ins m c t) (xsT m c n) (cwT m c n) = contrib m c n (e + 1) := by
      unfold contrib; rw [← he, pt_val]
    simp only [← hn, hs.1, hs.2, hC] at R
    refine ⟨{ O with out := put n O.out (k0_pay1 (contrib m c n (e + 1)) (tile n O.out)) }, ⟨?_, ⟨fun h' => ?_, fun _ => h.z.2 (by omega)⟩, ⟨fun h' => ?_, fun _ => h.aux.2 (by omega)⟩, fun s _ => h.scr s (by have := s.isLt; omega)⟩, R⟩
    · rw [he]; exact keptOut_later m c n e (he ▸ h.out)
    · omega
    · omega

/-! ## The pipeline's proof data -/

/-- The three written windows. -/
def written : Fin 7 → Bool := fun w => w.val == 4 || w.val == 5 || w.val == 6

/-- What the body leaves in a written window at point `t`. -/
def Left (c : Dev nD) (w : Fin cfg0.W) (t : Fin cfg0.N) (Y : (cfg0.win w).block.Idx → Elt F (cfg0.win w).elt) : Prop :=
  match w with
  | ⟨4, _⟩ => KeptOut m c (t.val + 1) Y
  | ⟨5, _⟩ => KeptScalar (zs m c 0) (zAll m c) (t.val + 1) Y
  | ⟨6, _⟩ => KeptScalar (axs m c 0) (aAll m c) (t.val + 1) Y
  | _ => True

/-- The invariant before point `t`: the scratch buffers at what they keep, and the generator's register. -/
def inv (c : Dev nD) (k : ℕ) : sProp 𝕄 :=
  iprop(∃ w : Vec F S2048x8 .f32, ∃ x : Vec F S2048x1024 .bf16, ⌜KeptScratch m c k w x⌝
    ∗ owns (c : Thread nD τ) scW fullShare w ∗ owns (c : Thread nD τ) scX fullShare x ∗ (∃ r, prngReg c r))

/-- The exact part of the proof data: the inputs at their blocks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := inv m c t.val
  q _ := fullShare
  owed _ := 0

theorem A_eq (c : Dev nD) (w : Fin cfg0.W) : (dats m c).A w = V m c (Pipeline.arrRef spec0 w) := by dsimp only [dats]
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d

/-- The proof data with the written windows held to `Left`. -/
abbrev rdat (c : Dev nD) : Pipeline.RDat τ (Elt F) Unit ℕ (UR sig nD τ) ℕ cfg0 c := (dats m c).toRRel written (Left m c)

/-- What a written window holds when the body runs, after the first point, is what the point before left. -/
theorem left_of_finds (c : Dev nD) (w : Fin cfg0.W) (hw : written w = true) (hf : ∀ t, (cfg0.win w).fetch t = false)
    (hl : ∀ t, (cfg0.win w).flush t = true ↔ t.val % 16 = 15) (t : Fin cfg0.N) (ht : t.val ≠ 0)
    (X : (cfg0.win w).block.Idx → Elt F (cfg0.win w).elt) (h : (rdat m c).Finds w t X) :
    Left m c w ⟨t.val - 1, Nat.lt_of_le_of_lt (Nat.sub_le _ _) t.isLt⟩ X := by
  have h16 : t.val < 16 := Nat.lt_of_lt_of_eq t.isLt N_0
  rcases ((rdat m c).finds_of_pos (hf t) ht X).mp h with e | e
  · have := (hl _).mp e
    change (t.val - 1) % 16 = 15 at this
    omega
  · exact (dats m c).toRRel_leaves hw e

/-- What the five written buffers hold when the body runs at point `t`. -/
theorem kept_of_finds (c : Dev nD) (t : Fin cfg0.N) (y4 : Vec F S2048x1024 .f32) (y5 y6 : Vec F S1x1 .f32) (w : Vec F S2048x8 .f32)
    (x : Vec F S2048x1024 .bf16) (h4 : (rdat m c).Finds 4 t y4) (h5 : (rdat m c).Finds 5 t y5) (h6 : (rdat m c).Finds 6 t y6)
    (hs : KeptScratch m c t.val w x) : Kept m c t.val ⟨y4, y5, y6, w, x⟩ := by
  by_cases ht : t.val = 0
  · exact ⟨fun s h => by omega, ⟨fun h => by omega, fun h => by omega⟩, ⟨fun h => by omega, fun h => by omega⟩, hs⟩
  · have e : t.val - 1 + 1 = t.val := by omega
    have g4 : KeptOut m c (t.val - 1 + 1) y4 := left_of_finds m c 4 rfl (fun _ => rfl) flush0_4 t ht y4 h4
    have g5 : KeptScalar (zs m c 0) (zAll m c) (t.val - 1 + 1) y5 := left_of_finds m c 5 rfl (fun _ => rfl) flush0_5 t ht y5 h5
    have g6 : KeptScalar (axs m c 0) (aAll m c) (t.val - 1 + 1) y6 := left_of_finds m c 6 rfl (fun _ => rfl) flush0_6 t ht y6 h6
    rw [e] at g4 g5 g6
    exact ⟨g4, g5, g6, hs⟩

/-! ## The body obligation -/

/-- What the body is called with at point `t`, -/
def bodyPre (c : Dev nD) (t : Fin cfg0.N) : sProp 𝕄 :=
  iprop(inv m c t.val ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ Y, ⌜(rdat m c).Finds 4 t Y⌝ ∗ owns (c : Thread nD τ) (ms4 t) fullShare Y)
    ∗ (∃ Y, ⌜(rdat m c).Finds 5 t Y⌝ ∗ owns (c : Thread nD τ) (ms5 t) fullShare Y)
    ∗ (∃ Y, ⌜(rdat m c).Finds 6 t Y⌝ ∗ owns (c : Thread nD τ) (ms6 t) fullShare Y))

/-- and what it returns. -/
def bodyPost (c : Dev nD) (t : Fin cfg0.N) : sProp 𝕄 :=
  iprop(inv m c (t.val + 1) ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ (∃ Y, ⌜Left m c 4 t Y⌝ ∗ owns (c : Thread nD τ) (ms4 t) fullShare Y)
    ∗ (∃ Y, ⌜Left m c 5 t Y⌝ ∗ owns (c : Thread nD τ) (ms5 t) fullShare Y)
    ∗ (∃ Y, ⌜Left m c 6 t Y⌝ ∗ owns (c : Thread nD τ) (ms6 t) fullShare Y))

/-- The memrefs of point `t`. -/
abbrev args (t : Fin cfg0.N) : Args where
  a2 := ms0 t
  a3 := ms1 t
  a4 := ms2 t
  a5 := ms3 t
  a6 := ms4 t
  a7 := ms5 t
  a8 := ms6 t
  a9 := scW
  a10 := scX
  h2 := hstage0_0 _
  h3 := hstage0_1 _
  h4 := hstage0_2 _
  h5 := hstage0_3 _
  h6 := hstage0_4 _
  h7 := hstage0_5 _
  h8 := hstage0_6 _
  h9 := Memref.isWhole_whole _
  h10 := Memref.isWhole_whole _

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost inv
  simp only [before_0, before_1, before_2, before_3, after_0, after_1, after_2, after_3]
  rw [show (dats m c).owesAt () t.succ = (dats m c).owesAt () t.castSucc from rfl]
  iintro ⟨⟨%w, %x, %hs, HS0, HS1, Hg⟩, Ho, ⟨%d0, H0⟩, ⟨%d1, H1⟩, ⟨%d2, H2⟩, ⟨%d3, H3⟩, ⟨%y4, %h4, H4⟩, ⟨%y5, %h5, H5⟩, ⟨%y6, %h6, H6⟩⟩
  obtain ⟨O', hk, hr⟩ := step m c t (args t) ⟨y4, y5, y6, w, x⟩ (kept_of_finds m c t y4 y5 y6 w x h4 h5 h6 hs)
  iapply (hr Set.univ _)
  unfold held
  isplitl [H0 H1 H2 H3 H4 H5 H6 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iintro ⟨H0, H1, H2, H3, H4, H5, H6, HS0, HS1⟩
  isplitl [HS0 HS1 Hg]
  · iexists O'.cw; iexists O'.xs
    isplitr; · ipureintro; exact hk.scr
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]
  · iexists O'.out; isplitr; · ipureintro; exact hk.out
    iexact H4
  isplitl [H5]
  · iexists O'.z; isplitr; · ipureintro; exact hk.z
    iexact H5
  iexists O'.aux; isplitr; · ipureintro; exact hk.aux
  iexact H6

/-- The body table's row at point `t`'s slots is the body's call there. -/
theorem defs₀_row (t : Fin cfg0.N) : defs₀ (F := F) .tc cfg0.body (cfg0.bodyArgs t (cfg0.slots t)) = bodyAt0 t := by
  unfold defs₀; rw [Defs.onTc_tc]

/-- The pipeline's body obligation, the written windows held to `Left`. -/
theorem body_obligation (c : Dev nD) :
    Pipeline.BodyObligationRel (dats (F := F) m c) (defs₀ (F := F)) Variants.none () Set.univ written (Left m c) := fun t => by
  rw [bigSep_W0, bigSep_W0, defs₀_row]
  exact triple_restated (sound_body m c t) rfl .rfl fun _ => .rfl

end Cert.KernelIdeal.Hand

end
-- ==== Proof.Tail.lean ====
/-
  A launch whose host lines after the region read arrays known only by a relation.

  The pipeline's output arrays hold, when the region ends, SOME contents that the relational proof data allow. The host
  lines that follow read those arrays, so what they write is a function of these contents. The launch theorem here says
  so: there are array contents `A`, allowed after every point, such that every buffer that bypasses the region ends at
  what the host lines compute from `A`.
-/
module

public import Idealize.ShloMosaic.Lib.Pipeline.FrameSuffix

@[expose] public section

noncomputable section

namespace Cert.TailRun

open Idealize.ShloMosaic Idealize.ShloMosaic.TcCoe Idealize.ShloMosaic.Rounds Idealize.ShloMosaic.Pipeline
open Idealize.SL Idealize.SL.RA
open Idealize.SL.BI (sProp bigSep)
open scoped Idealize.SL.BI
open Idealize.SL.BI.BIBase Idealize.SL.BI.Laws Idealize.SL.Sem Idealize.SL.ProofMode

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- What the buffers hold when the host lines `opss` have run from array contents `A` over the entry contents `V`. -/
def tailVal {gr W : Nat} (win : Fin W → WinSpec sig gr) (V : Dev nD → Valuation τ sig Val) (opss : List (List (HloOp τ sig Val)))
    (c : Dev nD) (A : (w : Fin W) → Buf Val ((win w).arr.view.loc (c.tc : Thread nD τ))) (b : Ref sig .tc) :
    Buf Val ((c.tc : Thread nD τ).loc b) :=
  StableHlo.after opss.flatten (withArrays win c (V c) A) (Proc.devRef .tc b)

/-- The state a run with a host tail ends in: each array of the pipeline at contents the relation allows, and every buffer
    outside the pipeline at what the host lines compute from array contents the relation allows. -/
def TailPost (cfg₁ : Cfg sig Λ₀) (rdat : (c : Dev nD) → RDat τ Val Unit ℕ (UR sig nD τ) ℕ cfg₁ c)
    (V : Dev nD → Valuation τ sig Val) (opss : List (List (HloOp τ sig Val))) (r : PUnit × MemSt nD τ sig Val) : Prop :=
  ∀ c : Dev nD, (∀ w, (rdat c).ArrAt w cfg₁.N (r.2.mem ((cfg₁.spec w).arr.view.loc (c.tc : Thread nD τ))))
    ∧ ∃ A : (w : Fin cfg₁.W) → Buf Val ((cfg₁.spec w).arr.view.loc (c.tc : Thread nD τ)),
      (∀ w, (rdat c).ArrAt w cfg₁.N (A w))
        ∧ ∀ b ∈ restRefs sig cfg₁.spec, r.2.mem ((c.tc : Thread nD τ).loc b) = tailVal cfg₁.spec V opss c A b

omit [Fintype P] [DecidableEq P] in
/-- The arrays after `n` points, each at contents the relation allows, are the arrays at one choice of such contents. -/
theorem arraysAt_choose {cfg₁ : Cfg sig Λ₀} {c : Dev nD} (rd : RDat τ Val Unit ℕ (UR sig nD τ) ℕ cfg₁ c) (n : Nat) :
    (rd.arraysAt n : sProp 𝕄) ⊢ iprop(∃ A, ⌜∀ w, rd.ArrAt w n (A w)⌝ ∗ rd.arrays A) := by
  classical
  unfold RDat.arraysAt RDat.arrays
  iintro H
  ihave H1 := (BI.bigSep_exists_pi Finset.univ (fun w Y => iprop(⌜rd.ArrAt w n Y⌝
      ∗ (cfg₁.win w).arr.view.loc (c.tc : Thread nD τ) ↦[(cfg₁.win w).arr.view.set]{rd.share w} Y))) $$ H
  icases H1 with ⟨%A, H1⟩
  ihave H2 := (BI.bigSep_pure_sep Finset.univ (fun w => rd.ArrAt w n (A w))
      (fun w => (cfg₁.win w).arr.view.loc (c.tc : Thread nD τ) ↦[(cfg₁.win w).arr.view.set]{rd.share w} A w)) $$ H1
  icases H2 with ⟨%hA, H2⟩
  iexists A
  isplitr
  · ipureintro; exact fun w => hA w (Finset.mem_univ w)
  iexact H2

omit [Fintype P] [DecidableEq P] [∀ e, Nonempty (Val e)] in
/-- The arrays at contents the relation allows after `n` points are the arrays after `n` points. -/
theorem arraysAt_of {cfg₁ : Cfg sig Λ₀} {c : Dev nD} (rd : RDat τ Val Unit ℕ (UR sig nD τ) ℕ cfg₁ c) (n : Nat)
    (A : (w : Fin cfg₁.W) → Buf Val ((cfg₁.win w).arr.view.loc (c.tc : Thread nD τ))) (hA : ∀ w, rd.ArrAt w n (A w)) :
    (rd.arrays A : sProp 𝕄) ⊢ rd.arraysAt n := by
  unfold RDat.arraysAt RDat.arrays
  refine BI.bigSep_mono fun w _ => ?_
  show ((cfg₁.win w).arr.view.loc (c.tc : Thread nD τ) ↦[(cfg₁.win w).arr.view.set]{rd.share w} A w : sProp 𝕄)
    ⊢ iprop(∃ Y, ⌜rd.ArrAt w n Y⌝ ∗ (cfg₁.win w).arr.view.loc (c.tc : Thread nD τ) ↦[(cfg₁.win w).arr.view.set]{rd.share w} Y)
  iintro H
  iexists (A w)
  isplitr
  · ipureintro; exact hA w
  iexact H

section Run

variable (pcs : P → PCfg sig Λ₀ Val) (a : (p : P) → (pcs p).Adm) (p : P)
  (kit₀ : PLaunchFacts₀ (nD := nD) (τ := τ) pcs p) (defs₀ : Defs nD τ sig Val Λ₀) (𝒱₀ : Variants)

local notation "cfg" => pin pcs a p
local notation "𝔻" => Pipeline.defs pcs defs₀

/-- What the tail leaves of the buffers outside the pipeline: they hold the host lines' values at allowed array contents. -/
def leftOver (rdat : (c : Dev nD) → RDat τ Val Unit ℕ (UR sig nD τ) ℕ cfg c) (V : Dev nD → Valuation τ sig Val)
    (opss : List (List (HloOp τ sig Val))) (c : Dev nD) : sProp 𝕄 :=
  iprop(∃ A, ⌜∀ w, (rdat c).ArrAt w (cfg).N (A w)⌝
    ∗ unscopedRestP (Ix := Unit) (Name := ℕ) (U := UR sig nD τ) (Lvl := ℕ) (pcs p).pre (cfg).spec c (tailVal (cfg).spec V opss c A))

include kit₀ in
/-- The host lines, run from the region's exit: they hand the arrays back and leave the other buffers at `leftOver`. -/
theorem tail_wp (rdat : (c : Dev nD) → RDat τ Val Unit ℕ (UR sig nD τ) ℕ cfg c)
    (hq : ∀ c w, ((cfg).spec w).isOut = false → (rdat c).q w = shareOf (cfg).spec w)
    (V : Dev nD → Valuation τ sig Val) (opss : List (List (HloOp τ sig Val)))
    (hsub : ∀ ops ∈ opss, ∀ op ∈ ops, op.bufs ⊆ tailRefs sig (pcs p).pre (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hA : ∀ c w, (rdat c).A w = V c (Proc.devRef .tc (arrRef (cfg).spec w))) (c : Dev nD) (Q : PUnit → sProp 𝕄) :
    iprop((iprop(boundary (c.tc : Thread nD τ) ∗ (rdat c).arraysAt (cfg).N ∗ leftOver pcs a p rdat V opss c) -∗ Q ⟨⟩)
        ∗ boundary (c.tc : Thread nD τ) ∗ (rdat c).arraysAt (cfg).N
        ∗ unscopedRestP (Ix := Unit) (Name := ℕ) (U := UR sig nD τ) (Lvl := ℕ) (pcs p).pre (cfg).spec c (fun b => V c (Proc.devRef .tc b)))
      ⊢ wp frame (wpE 𝔻 (Variants.lift 𝒱₀) (c.tc : Thread nD τ) none) Set.univ (chain (opss.map StableHlo.seq)) Q := by
  iintro ⟨Hk, Hb, Harr, Hrest⟩
  ihave H := (arraysAt_choose (rdat c) (cfg).N) $$ Harr
  icases H with ⟨%A, %hAll, Harr⟩
  have hshared := (rdat c).ArrAt_sharedIn kit₀.sharedIn (V c) (hA c) (cfg).N A hAll
  have hbufs : (rdat c).arrays A = arrBufs (cfg).spec c (fun b => withArrays (cfg).spec c (V c) A (Proc.devRef .tc b)) :=
    ((rdat c).arrBufs_eq_arrays kit₀.sharedIn kit₀.arr_whole (hq c) _ A
      fun w => (withArrays_arr_shared (cfg).spec c (V c) A hshared w).symm).symm
  iapply (tail_seqs_bufs_b pcs defs₀ 𝒱₀ (pcs p).pre (cfg).spec c (V c) A opss hsub hfresh hkeep Q)
  isplitl [Hk]
  · iintro ⟨Hb, Harr, Hrest⟩
    iapply Hk
    isplitl [Hb]; · iexact Hb
    isplitl [Harr]
    · iapply (arraysAt_of (rdat c) (cfg).N A hAll)
      iapply (Entails.of_eq hbufs.symm)
      iexact Harr
    unfold leftOver
    iexists A
    isplitr
    · ipureintro; exact hAll
    iexact Hrest
  isplitl [Hb]; · iexact Hb
  isplitl [Harr]
  · iapply (Entails.of_eq hbufs)
    iexact Harr
  iexact Hrest

include kit₀ in
/-- THE RUN, its post naming what the host lines leave: the program terminates, every array ends at contents the relation
    allows, every other unscoped buffer (tables excepted) ends at what the host lines compute from array contents the
    relation allows, and every semaphore reads zero. -/
theorem run (rdat : (c : Dev nD) → RDat τ Val Unit ℕ (UR sig nD τ) ℕ cfg c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((cfg).spec w).isOut = false → (rdat c).q w = shareOf (cfg).spec w) (howed : ∀ c t, (rdat c).owed t = 0)
    (V : Dev nD → Valuation τ sig Val) (opss : List (List (HloOp τ sig Val)))
    (hsub : ∀ ops ∈ opss, ∀ op ∈ ops, op.bufs ⊆ tailRefs sig (pcs p).pre (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainPK (Ix := Unit) (Name := ℕ) (U := UR sig nD τ) (Lvl := ℕ) pcs p defs₀ 𝒱₀ m main
      (fun c b => V c (Proc.devRef .tc b)) (fun _ => chain (opss.map StableHlo.seq)))
    (hA : ∀ c w, (rdat c).A w = V c (Proc.devRef .tc (arrRef (cfg).spec w)))
    (hpf : ∀ c k, V c (Proc.devRef .tc ((pcs p).pre.ref k)) = (a p).1 k) (hK : IsEmpty (Fin (pcs p).pre.K))
    (hin : ∀ c, ΦA (cfg).spec c ⊢ (rdat c).Φ 0)
    (hout : ∀ c, (rdat c).Φ (Fin.last (cfg).N) ⊢ ΦA (cfg).spec c) :
    θ_run 𝔻 (onTc main) (s₀ m g) (fun r => TailPost (cfg) rdat V opss r ∧ r.2.sem = fun _ => 0) := by
  classical
  exact RDat.θ_run_region_pf_tail_quiescent pcs a (RDat.familyOf pcs a p rdat) () (kit₀.cellOf_inj a) p kit₀.win
    (OwnSemFacts.none (cfg).spec) kit₀.pre emb₁ defs₀ 𝒱₀ m g main (fun _ => chain (opss.map StableHlo.seq))
    (fun c => by rw [RDat.familyOf_self]; exact hbody c) kit₀.block_pos kit₀.arr_whole kit₀.stage_whole
    (fun c t => by rw [RDat.familyOf_self]; exact howed c t)
    (G := fun _ => iprop(emp)) (u₀ := initOf (cells (pin pcs a) (kit₀.cellOf_inj a)) (launchToks (pin pcs a) (kit₀.cellOf_inj a)))
    (hu₀ := by
      iintro Hu; imodintro
      isplitl [Hu]
      · iapply (show (ownU _ : sProp 𝕄) ⊢ BI.own (emb₁ (initOf (cells (pin pcs a) (kit₀.cellOf_inj a)) (launchToks (pin pcs a) (kit₀.cellOf_inj a)))) from .rfl)
        iexact Hu
      iapply (show (BI.emp : sProp 𝕄) ⊢ bigSep Finset.univ (fun _ : Dev nD => (BI.emp : sProp 𝕄)) from by rw [BI.bigSep_emp_const])
      iempintro)
    (V := fun c b => V c (Proc.devRef .tc b)) (hmain := hmain)
    (hsplit := fun c => by
      rw [RDat.familyOf_self]
      exact (rdat c).arrays_split_shared kit₀.sharedIn kit₀.arr_whole (hq c) (fun b => V c (Proc.devRef .tc b)) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (cfg).spec c (fun b => V c (Proc.devRef .tc b)))
    (Z' := leftOver pcs a p rdat V opss)
    (hX := fun c => by
      iintro ⟨HU, -, -, Hp, -⟩; imodintro
      isplitl [Hp]
      · iexists _; iexact Hp
      iexact HU)
    (hin := fun c => by
      rw [RDat.familyOf_self]
      refine Entails.trans ?_ (hin c)
      unfold ΦA
      iintro ⟨Hp, -, Hr⟩
      isplitl [Hr]; · iexact Hr
      iexact Hp)
    (hout := fun c => by
      rw [RDat.familyOf_self]
      refine (hout c).trans ?_
      rw [ownSems0_none]; unfold ΦA
      iintro ⟨Hr, Hp⟩
      isplitl [Hp]; · iexact Hp
      isplitr
      · iempintro
      iexact Hr)
    (htail := fun c Q => by
      rw [RDat.familyOf_self]
      exact tail_wp pcs a p kit₀ defs₀ 𝒱₀ rdat hq V opss hsub hfresh hkeep hA c Q)
    (QY := fun c s => ∃ A : (w : Fin (cfg).W) → Buf Val (((cfg).spec w).arr.view.loc (c.tc : Thread nD τ)),
      (∀ w, (rdat c).ArrAt w (cfg).N (A w))
        ∧ ∀ b ∈ restRefsP sig (pcs p).pre (cfg).spec, s.mem ((c.tc : Thread nD τ).loc b) = tailVal (cfg).spec V opss c A b)
    (hY := fun c s' => by
      unfold leftOver unscopedRestP
      iintro ⟨-, ⟨%A, %hAll, HZ⟩, HSI⟩
      ihave HR := (pointsTo_read_all (restRefsP sig (pcs p).pre (cfg).spec) (fun b => (c.tc : Thread nD τ).loc b)
        (tailVal (cfg).spec V opss c A) s') $$ [HZ HSI]
      · isplitl [HZ] <;> iassumption
      icases HR with ⟨%hR, HSI⟩
      imodintro
      isplitr
      · ipureintro; exact ⟨A, hAll, hR⟩
      iexact HSI)
    (hQ := fun s h hz => ⟨fun c => ⟨fun w => by simpa only [RDat.familyOf_self] using (h c).1 w, by
      obtain ⟨A, hAll, hR⟩ := (h c).2.2
      refine ⟨A, hAll, fun b hb => hR b (Finset.mem_sdiff.mpr ⟨hb, fun hk => ?_⟩)⟩
      obtain ⟨k, -, -⟩ := Finset.mem_image.mp hk
      exact hK.elim k⟩, hz⟩)

end Run

section Plain

variable (cfgs : P → Cfg sig Λ₀) (p : P) (kit : LaunchFacts (nD := nD) (τ := τ) cfgs p) (defs₀ : Defs nD τ sig Val Λ₀) (𝒱₀ : Variants)

include kit in
/-- `run` for a pipeline that prefetches no table, holding every array at the full share. -/
theorem run_plain (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V c (Proc.devRef .tc b)) (fun _ => chain (opss.map StableHlo.seq)))
    (hA : ∀ c w, (rdat c).A w = V c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => (cfgs q).toPCfg (Val := Val)) defs₀) (onTc main) (s₀ m g)
      (fun r => TailPost (cfgs p) rdat V opss r ∧ r.2.sem = fun _ => 0) :=
  run (fun q => (cfgs q).toPCfg (Val := Val)) (fun q => (cfgs q).toPCfg_adm) p kit.toP.to₀ defs₀ 𝒱₀ rdat m g main hbody
    (fun c w h => (rdat c).q_eq_shareOf_of_share_full kit.win.arr_inj (hshare c) w h) howed V opss hsub hfresh hkeep hmain hA (fun _ k => k.elim0) ⟨fun k => k.elim0⟩ hin hout

end Plain

end Cert.TailRun

end
-- ==== Proof.Run.lean ====
/- The idealized kernel's run: what its three results hold, as functions of the blocks its body reads, the arguments
   unchanged and every counter at zero. -/
module

public import proofs.«01_k».proof.Proof.Data
public import proofs.«01_k».proof.Proof.Tail
public import Idealize.ShloMosaic.Lib.Pipeline.ArrRel
public import Idealize.ShloMosaic.Lib.Claim

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem inv_in (c : Dev nD) : (Pipeline.ΦA spec0 c : sProp 𝕄) ⊢ inv m c 0 := by
  rw [PhiA_eq]; unfold inv
  iintro ⟨⟨⟨%w, HW⟩, ⟨%x, HX⟩⟩, Hg⟩
  iexists w; iexists x
  isplitr
  · ipureintro; exact fun s h => absurd h (Nat.not_lt_zero _)
  isplitl [HW]; · iexact HW
  isplitl [HX]; · iexact HX
  iexact Hg

theorem inv_out (c : Dev nD) (k : ℕ) : inv m c k ⊢ (Pipeline.ΦA spec0 c : sProp 𝕄) := by
  rw [PhiA_eq]; unfold inv
  iintro ⟨%w, %x, -, HW, HX, Hg⟩
  isplitl [HW HX]
  · isplitl [HW]
    · iexists w; iexact HW
    iexists x; iexact HX
  iexact Hg

set_option backward.isDefEq.respectTransparency.types false in
set_option maxHeartbeats 800000 in
/-- The run with its host tail, off the library's launch. -/
theorem run_tail : θ_run defs (onTc (τ := τ) (main (F := F))) (s₀ m ρ)
    (fun r => Cert.TailRun.TailPost (cfgs 0) (rdat m) (V0 m) [hostOps1] r ∧ r.2.sem = fun _ => 0) :=
  Cert.TailRun.run_plain cfgs (0 : Fin 1) launch0 defs₀ Variants.none (rdat m) m ρ main
    (hbody := fun c => (body_obligation m c).toRRel) (hshare := fun c w => (dats m c).share_full (fun _ => rfl) w)
    (howed := fun _ _ => rfl) (V := V0 m) (opss := [hostOps1]) (hsub := sfx_sub) (hfresh := sfx_fresh) (hkeep := sfx_keeps)
    (hmain := hmain m Variants.none) (hA := A_eq m) (hin := inv_in m) (hout := fun c => inv_out m c _)

/-! ## The arrays at the end -/

/-- The output rows the pipeline writes back. -/
theorem out_arr (c : Dev nD) (G : Vec F S2048x1024 .f32) (hG : (rdat m c).ArrAt 4 cfg0.N G) : KeptOut m c 16 G := by
  obtain ⟨X, hX, hE⟩ := Pipeline.RDat.ArrAt.emb_eq_of_wholeAt hG (t₀ := t0_15) (by decide +kernel)
  have h : KeptOut m c 16 X := (dats m c).toRRel_leaves rfl hX
  rwa [show G = X from funext fun j => hE j]

/-- The z loss the pipeline writes back. -/
theorem z_arr (c : Dev nD) (G : Vec F S1x1 .f32) (hG : (rdat m c).ArrAt 5 cfg0.N G) : G = fun _ => zAll m c := by
  obtain ⟨X, hX, hE⟩ := Pipeline.RDat.ArrAt.emb_eq_of_wholeAt hG (t₀ := t0_15) (by decide +kernel)
  have h : KeptScalar (zs m c 0) (zAll m c) 16 X := (dats m c).toRRel_leaves rfl hX
  rw [show G = X from funext fun j => hE j]
  exact h.2 (by decide)

/-- The auxiliary loss the pipeline writes back. -/
theorem aux_arr (c : Dev nD) (G : Vec F S1x1 .f32) (hG : (rdat m c).ArrAt 6 cfg0.N G) : G = fun _ => aAll m c := by
  obtain ⟨X, hX, hE⟩ := Pipeline.RDat.ArrAt.emb_eq_of_wholeAt hG (t₀ := t0_15) (by decide +kernel)
  have h : KeptScalar (axs m c 0) (aAll m c) 16 X := (dats m c).toRRel_leaves rfl hX
  rw [show G = X from funext fun j => hE j]
  exact h.2 (by decide)

/-- The output rows: each element is its tile's sum over the eight experts. -/
def outRows (c : Dev nD) : Vec F S2048x1024 .f32 := fun y =>
  acc m c ⟨(y 0).val / 1024, by have h : (y 0).val < 2048 := (y 0).isLt; omega⟩ 7 (inTile y)

theorem eq_outRows (c : Dev nD) (G : Vec F S2048x1024 .f32) (h : KeptOut m c 16 G) : G = outRows m c := funext fun y => by
  have hy : (y 0).val < 2048 := (y 0).isLt
  rw [eq_tile G y, h ⟨(y 0).val / 1024, by omega⟩ (by show (y 0).val / 1024 < 16; omega)]
  unfold outRows
  congr 1
  show (16 - 1 - (y 0).val / 1024) / 2 = 7
  omega

/-! ## The results -/

/-- The three results, in the order of the claim. -/
def res0 (c : Dev nD) : Vec F S1x2048x1024 .f32 := shapeCast S1x2048x1024 (outRows m c) shapeCasts_S2048x1024_S1x2048x1024
def res1 (c : Dev nD) : Vec F S_ .f32 := shapeCast S_ (fun _ : S1x1.Idx => aAll m c) shapeCasts_S1x1_S_
def res2 (c : Dev nD) : Vec F S_ .f32 := shapeCast S_ (fun _ : S1x1.Idx => zAll m c) shapeCasts_S1x1_S_

section Tail

variable (c : Dev nD) (A : (w : Fin cfg0.W) → Buf (Elt F) ((cfg0.spec w).arr.view.loc (c.tc : Thread nD τ)))
  (hA : ∀ w, (rdat m c).ArrAt w cfg0.N (A w))

include hA

theorem tail_v2 : Cert.TailRun.tailVal cfg0.spec (V0 m) [hostOps1] c A main_v2 = res0 m c := by
  have e : Pipeline.withArrays cfg0.spec c (V0 m c) A (Proc.devRef .tc main_v1_0) = outRows m c :=
    (Pipeline.withArrays_arr cfg0.spec launch0.win.arr_inj c (V0 m c) A 4).trans (eq_outRows m c _ (out_arr m c _ (hA 4)))
  unfold Cert.TailRun.tailVal
  after_results
  exact congrArg (fun X : Vec F S2048x1024 .f32 => shapeCast S1x2048x1024 X shapeCasts_S2048x1024_S1x2048x1024) e

theorem tail_v3 : Cert.TailRun.tailVal cfg0.spec (V0 m) [hostOps1] c A main_v3 = res1 m c := by
  have e : Pipeline.withArrays cfg0.spec c (V0 m c) A (Proc.devRef .tc main_v1_2) = fun _ => aAll m c :=
    (Pipeline.withArrays_arr cfg0.spec launch0.win.arr_inj c (V0 m c) A 6).trans (aux_arr m c _ (hA 6))
  unfold Cert.TailRun.tailVal
  after_results
  exact congrArg (fun X : Vec F S1x1 .f32 => shapeCast S_ X shapeCasts_S1x1_S_) e

theorem tail_v4 : Cert.TailRun.tailVal cfg0.spec (V0 m) [hostOps1] c A main_v4 = res2 m c := by
  have e : Pipeline.withArrays cfg0.spec c (V0 m c) A (Proc.devRef .tc main_v1_1) = fun _ => zAll m c :=
    (Pipeline.withArrays_arr cfg0.spec launch0.win.arr_inj c (V0 m c) A 5).trans (z_arr m c _ (hA 5))
  unfold Cert.TailRun.tailVal
  after_results
  exact congrArg (fun X : Vec F S1x1 .f32 => shapeCast S_ X shapeCasts_S1x1_S_) e

omit hA in
/-- A buffer that is no array of the pipeline and that the host lines do not write keeps its entry contents. -/
theorem tail_kept (b : Ref sig .tc) (h2 : b ≠ main_v2) (h3 : b ≠ main_v3) (h4 : b ≠ main_v4) (hb : ∀ w, Pipeline.arrRef cfg0.spec w ≠ b) :
    Cert.TailRun.tailVal cfg0.spec (V0 m) [hostOps1] c A b = V m c b := by
  unfold Cert.TailRun.tailVal
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact ⟨StableHlo.devRef_ne_of_ne h2, StableHlo.devRef_ne_of_ne h3, StableHlo.devRef_ne_of_ne h4⟩)),
    Pipeline.withArrays_of_ne _ c (V0 m c) _ b hb]

end Tail

/-- What every final state holds on each core: the results and the arguments unchanged. -/
def Ends (r : PUnit × MemSt nD τ sig (Elt F)) : Prop := ∀ c : Dev nD,
  (r.2.mem ((c.tc : Thread nD τ).loc main_v2) = res0 m c
    ∧ r.2.mem ((c.tc : Thread nD τ).loc main_v3) = res1 m c
    ∧ r.2.mem ((c.tc : Thread nD τ).loc main_v4) = res2 m c)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- An input window's array ends at its entry contents. -/
theorem in_kept {cfg₁ : Cfg sig Λ₀} {rd : (c : Dev nD) → Pipeline.RDat τ (Elt F) Unit ℕ (UR sig nD τ) ℕ cfg₁ c} {Vv : Dev nD → Valuation τ sig (Elt F)}
    {opss : List (List (HloOp τ sig (Elt F)))} {r : PUnit × MemSt nD τ sig (Elt F)} (h : Cert.TailRun.TailPost cfg₁ rd Vv opss r) (c : Dev nD)
    (w : Fin cfg₁.W) (hin : (cfg₁.win w).isOut = false) :
    r.2.mem ((cfg₁.spec w).arr.view.loc (c.tc : Thread nD τ)) = (rd c).A w := by
  have h1 := (h c).1 w
  rw [(rd c).ArrAt_in w hin] at h1
  exact h1

theorem ends_of_tail (r : PUnit × MemSt nD τ sig (Elt F)) (h : Cert.TailRun.TailPost (cfgs 0) (rdat m) (V0 m) [hostOps1] r) : Ends m r := fun c => by
  obtain ⟨A, hA, hr⟩ := (h c).2
  refine ⟨⟨(hr main_v2 (by decide)).trans (tail_v2 m c A hA), (hr main_v3 (by decide)).trans (tail_v3 m c A hA),
      (hr main_v4 (by decide)).trans (tail_v4 m c A hA)⟩, ?_, ?_, ?_, ?_, ?_, ?_⟩
  · exact (hr main_arg0 (by decide)).trans ((tail_kept m c A main_arg0 (by decide) (by decide) (by decide) (by decide)).trans (V_main_arg0 m c))
  · exact (in_kept h c 1 rfl).trans ((A_eq m c 1).trans (V_main_arg1 m c))
  · exact (in_kept h c 2 rfl).trans ((A_eq m c 2).trans (V_main_arg2 m c))
  · exact (hr main_arg3 (by decide)).trans ((tail_kept m c A main_arg3 (by decide) (by decide) (by decide) (by decide)).trans (V_main_arg3 m c))
  · exact (in_kept h c 3 rfl).trans ((A_eq m c 3).trans (V_main_arg4 m c))
  · exact (hr main_arg5 (by decide)).trans ((tail_kept m c A main_arg5 (by decide) (by decide) (by decide) (by decide)).trans (V_main_arg5 m c))

/-- The kernel runs, every final state holds the three results with the arguments unchanged, and every counter reads zero. -/
theorem run : θ_run defs (onTc (τ := τ) (main (F := F))) ⟨m, fun _ => 0, ρ⟩ (fun r => Ends m r ∧ r.2.sem = fun _ => 0) :=
  (θ_run defs _ _).mono (fun r h => ⟨ends_of_tail m r h.1, h.2⟩) (run_tail m ρ)

end Cert.KernelIdeal.Hand

end
-- ==== Proof.Spec.lean ====
/- The layer in plain sums over the extended reals: the router, the experts, the combination and the two losses, and the
   identities between the ways the two programs spell them. Nothing here mentions a program. -/
module

public import Idealize.ShloMosaic.Lib.IdealHost
public import Idealize.ShloMosaic.Lib.ValueIdx
public import Mathlib.Analysis.SpecialFunctions.Trigonometric.DerivHyp

@[expose] public section

noncomputable section

namespace Cert.Moe

open Idealize.ShloMosaic Idealize.ShloMosaic.ValueIdx
open scoped BigOperators

/-! ## The constants -/

theorem bits_2048 : Ideal.ofBits .f32 0x45000000#32 = ((2048 : ℝ) : EReal) := by
  simp [Ideal.ofBits, Ideal.ieee, -EReal.coe_mul]; norm_num
theorem bits_8 : Ideal.ofBits .f32 0x41000000#32 = ((8 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_16384 : Ideal.ofBits .f32 0x46800000#32 = ((16384 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

/-! ## One token's router -/

/-- The largest of a token's logits. -/
def top (l : Fin 8 → EReal) : EReal := (Finset.univ : Finset (Fin 8)).fold max ⊥ l
/-- The exponential of a logit less the largest. -/
def ex (l : Fin 8 → EReal) (e : Fin 8) : EReal := Ideal.exp (l e - top l)
/-- Their sum. -/
def sm (l : Fin 8 → EReal) : EReal := ∑ e, ex l e
/-- The softmax. -/
def pr (l : Fin 8 → EReal) (e : Fin 8) : EReal := Ideal.div (ex l e) (sm l)
/-- The combine weight of an expert: its share of the softmax's sum. -/
def cw (l : Fin 8 → EReal) (e : Fin 8) : EReal := Ideal.div (pr l e) (∑ k, pr l k)
/-- The logarithm of the sum of the exponentials of the logits. -/
def lz (l : Fin 8 → EReal) : EReal := top l + Ideal.log (sm l)

/-- A value if it is finite, and zero otherwise. -/
def fin (x : EReal) : EReal := if max x (-x) < ⊤ then x else 0

theorem fin_coe (r : ℝ) : fin (r : EReal) = r := by
  unfold fin
  rw [if_pos]
  rw [← EReal.coe_neg]
  exact max_lt (EReal.coe_lt_top _) (EReal.coe_lt_top _)
theorem fin_top : fin ⊤ = 0 := by simp [fin]
theorem fin_bot : fin ⊥ = 0 := by simp [fin]

theorem exp_top : Ideal.exp ⊤ = ⊤ := rfl
theorem exp_bot : Ideal.exp ⊥ = 0 := rfl
theorem log_top : Ideal.log ⊤ = ⊤ := rfl
theorem log_zero : Ideal.log 0 = ⊥ := by
  show (if (0 : ℝ) ≤ 0 then (⊥ : EReal) else (Real.log 0 : EReal)) = ⊥
  rw [if_pos le_rfl]

theorem exp_nonneg (x : EReal) : 0 ≤ Ideal.exp x := by
  induction x with
  | bot => exact le_rfl
  | top => exact le_top
  | coe r => exact EReal.coe_nonneg.mpr (Real.exp_pos r).le

/-- The two spellings of the logarithm, one shifting by the largest logit and one by it only when it is finite, have one square. -/
theorem lz_sq (l : Fin 8 → EReal) :
    (Ideal.log (∑ e, Ideal.exp (l e - fin (top l))) + fin (top l)) * (Ideal.log (∑ e, Ideal.exp (l e - fin (top l))) + fin (top l))
      = lz l * lz l := by
  have hle : ∀ e, l e ≤ top l := fun e => (Finset.le_fold_max _).mpr (.inr ⟨e, Finset.mem_univ e, le_rfl⟩)
  unfold lz sm ex
  induction h : top l with
  | coe r => rw [fin_coe, add_comm]
  | top =>
    have h1 : ∑ e, Ideal.exp (l e - ⊤) = 0 := Finset.sum_eq_zero fun e _ => by
      rw [EReal.sub_top]; rfl
    have h2 : ∑ e, Ideal.exp (l e - 0) = ⊤ := by
      obtain ⟨e, -, he⟩ := ((Finset.le_fold_max (⊤ : EReal)).mp (le_of_eq h.symm)).resolve_left (by simp)
      refine top_le_iff.mp ?_
      refine le_trans ?_ (Finset.single_le_sum (fun k _ => exp_nonneg (l k - 0)) (Finset.mem_univ e))
      rw [top_le_iff.mp he]
      rw [sub_zero, exp_top]
    rw [fin_top, h1, h2, log_zero, log_top]
    simp
  | bot =>
    have hl : ∀ e, l e = ⊥ := fun e => le_bot_iff.mp (h ▸ hle e)
    have h1 : ∀ y : EReal, ∑ e, Ideal.exp (l e - y) = 0 := fun y => Finset.sum_eq_zero fun e _ => by
      rw [hl e, EReal.bot_sub]; rfl
    rw [fin_bot, h1, h1, log_zero]
    simp

/-! ## The activation -/

/-- `h / (1 + exp (-h))`. -/
def act (h : EReal) : EReal := h * Ideal.div 1 (1 + Ideal.exp (-h))

theorem logistic_real (r : ℝ) : 1 / 2 * Real.tanh (1 / 2 * r) + 1 / 2 = 1 * (1 + Real.exp (-r))⁻¹ := by
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  have hp := Real.exp_pos (1 / 2 * r)
  have hq := Real.exp_pos (-(1 / 2 * r))
  generalize Real.exp (1 / 2 * r) = p at *
  generalize Real.exp (-(1 / 2 * r)) = q at *
  have h1 : p + q ≠ 0 := by positivity
  have h2 : 1 + q * q ≠ 0 := by positivity
  field_simp
  nlinarith [e2]

/-- The activation by the hyperbolic tangent is the activation by the exponential. -/
theorem act_tanh (h : EReal) :
    h * (((1 / 2 : ℝ) : EReal) * Ideal.tanh (((1 / 2 : ℝ) : EReal) * h) + ((1 / 2 : ℝ) : EReal)) = act h := by
  unfold act
  congr 1
  induction h with
  | bot =>
    rw [EReal.coe_mul_bot_of_pos (by norm_num)]
    have h1 : Ideal.div 1 (1 + Ideal.exp (-⊥)) = 0 := by
      have : (1 : EReal) + ⊤ = ⊤ := EReal.add_top_of_ne_bot (EReal.coe_ne_bot 1)
      rw [EReal.neg_bot, exp_top, this]
      simp [Ideal.div]
    rw [h1]
    show ((1 / 2 : ℝ) : EReal) * (-1) + ((1 / 2 : ℝ) : EReal) = 0
    rw [show (-1 : EReal) = ((-1 : ℝ) : EReal) from rfl, ← EReal.coe_mul, ← EReal.coe_add]
    norm_num
  | top =>
    rw [EReal.coe_mul_top_of_pos (by norm_num)]
    have h1 : Ideal.div 1 (1 + Ideal.exp (-⊤)) = 1 := by
      rw [EReal.neg_top, exp_bot, add_zero, Ideal.div, if_neg one_ne_zero, one_mul]
      exact (EReal.coe_inv 1).symm.trans (by rw [inv_one]; rfl)
    rw [h1]
    show ((1 / 2 : ℝ) : EReal) * 1 + ((1 / 2 : ℝ) : EReal) = 1
    rw [mul_one, ← EReal.coe_add]
    norm_num
  | coe r =>
    rw [← EReal.coe_mul, ← EReal.coe_neg]
    show ((1 / 2 : ℝ) : EReal) * ((Real.tanh (1 / 2 * r) : ℝ) : EReal) + ((1 / 2 : ℝ) : EReal) = Ideal.div 1 (1 + ((Real.exp (-r) : ℝ) : EReal))
    rw [← EReal.coe_mul, ← EReal.coe_add, logistic_real, ← EReal.coe_one, ← EReal.coe_add, Ideal.div, if_neg, ← EReal.coe_inv, ← EReal.coe_mul]
    have := Real.exp_pos (-r)
    exact EReal.coe_ne_zero.mpr (by positivity)

/-! ## Constants against sums -/

/-- Division by a finite constant that is not zero is the product with its reciprocal. -/
theorem div_coe (x : EReal) (r : ℝ) (hr : r ≠ 0) : Ideal.div x (r : EReal) = x * ((r⁻¹ : ℝ) : EReal) := by
  unfold Ideal.div
  rw [if_neg (EReal.coe_ne_zero.mpr hr), EReal.coe_inv]

/-- A finite constant that is not negative comes out of a sum. -/
theorem sum_mul_coe {n : ℕ} (A : Fin n → EReal) (r : ℝ) (hr : 0 ≤ r) : ∑ k, A k * (r : EReal) = (∑ k, A k) * (r : EReal) := by
  refine Finset.induction_on (Finset.univ : Finset (Fin n)) (by simp) fun a s ha ih => ?_
  rw [Finset.sum_insert ha, Finset.sum_insert ha, ih,
    EReal.right_distrib_of_nonneg_of_ne_top (EReal.coe_nonneg.mpr hr) (EReal.coe_ne_top r)]

/-- The mean over the experts of products of means, scaled, is the total scaled once. -/
theorem aux_scale (A : Fin 8 → EReal) :
    Ideal.div (∑ k, Ideal.div (A k) ((2048 : ℝ) : EReal)) ((8 : ℝ) : EReal) * ((64 : ℝ) : EReal)
      = Ideal.div ((∑ k, A k) * ((64 : ℝ) : EReal)) ((16384 : ℝ) : EReal) := by
  simp only [div_coe _ _ (show (2048 : ℝ) ≠ 0 by norm_num), div_coe _ _ (show (8 : ℝ) ≠ 0 by norm_num),
    div_coe _ _ (show (16384 : ℝ) ≠ 0 by norm_num)]
  rw [sum_mul_coe _ _ (by norm_num)]
  simp only [mul_assoc, ← EReal.coe_mul]
  norm_num

/-! ## The layer -/

/-- The shapes of the arguments. -/
abbrev SX : Shape := ⟨3, ![1, 2048, 1024]⟩
abbrev SG : Shape := ⟨2, ![8, 1024]⟩
abbrev SA : Shape := ⟨3, ![8, 1024, 2048]⟩
abbrev SB : Shape := ⟨3, ![8, 2048, 1024]⟩

/-- A token's logits. -/
def logits (x : SX.Idx → EReal) (g : SG.Idx → EReal) (t : Fin 2048) (e : Fin 8) : EReal :=
  ∑ d : Fin 1024, x (ix3 0 t d) * g (ix2 e d)
/-- A token's hidden values in an expert, before the activation. -/
def hid (x : SX.Idx → EReal) (a : SA.Idx → EReal) (t : Fin 2048) (e : Fin 8) (f : Fin 2048) : EReal :=
  ∑ d : Fin 1024, x (ix3 0 t d) * a (ix3 e d f)
/-- An expert's output for a token. -/
def expert (x : SX.Idx → EReal) (a : SA.Idx → EReal) (b : SB.Idx → EReal) (t : Fin 2048) (e : Fin 8) (d : Fin 1024) : EReal :=
  ∑ f : Fin 2048, act (hid x a t e f) * b (ix3 e f d)
/-- The layer's output: the experts' outputs by the combine weights. -/
def out (x : SX.Idx → EReal) (g : SG.Idx → EReal) (a : SA.Idx → EReal) (b : SB.Idx → EReal) (t : Fin 2048) (d : Fin 1024) : EReal :=
  ∑ e : Fin 8, expert x a b t e d * cw (logits x g t) e
/-- The auxiliary loss. -/
def aux (x : SX.Idx → EReal) (g : SG.Idx → EReal) : EReal :=
  Ideal.div ((∑ t, ∑ e, cw (logits x g t) e) * ((64 : ℝ) : EReal)) ((16384 : ℝ) : EReal)
/-- The z loss. -/
def zLoss (x : SX.Idx → EReal) (g : SG.Idx → EReal) : EReal :=
  Ideal.div (∑ t, lz (logits x g t) * lz (logits x g t)) ((2048 : ℝ) : EReal)

/-- A sum over the tokens is the sum over the first half and the sum over the second. -/
theorem sum_halves (f : Fin 2048 → EReal) :
    ∑ t, f t = (∑ i : Fin 1024, f ⟨i.val, by omega⟩) + ∑ i : Fin 1024, f ⟨1024 + i.val, by omega⟩ :=
  Fin.sum_univ_add (a := 1024) (b := 1024) f

/-! ## Indices by coordinates -/

/-- Two indices of rank 1, 2 or 3 with the same coordinates are one. -/
theorem ext1 {a : ℕ} {i j : (⟨1, ![a]⟩ : Shape).Idx} (h0 : (i 0).val = (j 0).val) : i = j :=
  funext fun k => match k with
    | ⟨0, _⟩ => Fin.ext h0
theorem ext2 {a b : ℕ} {i j : (⟨2, ![a, b]⟩ : Shape).Idx} (h0 : (i 0).val = (j 0).val) (h1 : (i 1).val = (j 1).val) : i = j :=
  funext fun k => match k with
    | ⟨0, _⟩ => Fin.ext h0
    | ⟨1, _⟩ => Fin.ext h1
theorem ext3 {a b c : ℕ} {i j : (⟨3, ![a, b, c]⟩ : Shape).Idx} (h0 : (i 0).val = (j 0).val) (h1 : (i 1).val = (j 1).val)
    (h2 : (i 2).val = (j 2).val) : i = j :=
  funext fun k => match k with
    | ⟨0, _⟩ => Fin.ext h0
    | ⟨1, _⟩ => Fin.ext h1
    | ⟨2, _⟩ => Fin.ext h2

end Cert.Moe

end
-- ==== Proof.KRouter.lean ====
/- What the kernel's router computes from one tile of tokens: the logits, the combine weights, the tile's two sums. -/
module

public import proofs.«01_k».proof.Proof.Spec
public import proofs.«01_k».proof.Proof.Gen.KernelIdeal.Skeleton
public import Idealize.ShloMosaic.Lib.Pipeline.Value
public import Idealize.ShloMosaic.Lib.ValueLayout
public import Idealize.ShloMosaic.Lib.ValueLayoutCasts
public import Idealize.ShloMosaic.Lib.ValueIdx
public import Idealize.ShloMosaic.PureOps.Ideal.Laws

@[expose] public section

set_option maxRecDepth 16384

noncomputable section

namespace Cert.KernelIdeal.Meaning

open Cert.KernelIdeal Cert.KernelIdeal.Gen Cert.Moe
open Idealize.ShloMosaic Idealize.ShloMosaic.ValueIdx
open scoped BigOperators

/-- A matrix product into zeros whose one contracted axis has `n` coordinates is the sum over them. -/
theorem dot_sum {sl sr so : Shape} {φ ψ : FTy} (D : DotDims sl sr so) (n : ℕ) (hr : D.contr.rank = 1) (hs : D.contr.size ⟨0, by omega⟩ = n)
    (x : FVec Ideal sl φ) (y : FVec Ideal sr ψ) (j : so.Idx) (l : Fin n → sl.Idx) (r : Fin n → sr.Idx)
    (hl : ∀ (q : D.contr.Idx) (k : Fin n), (q ⟨0, by omega⟩).val = k.val → D.lhsIdx j q = l k)
    (hrr : ∀ (q : D.contr.Idx) (k : Fin n), (q ⟨0, by omega⟩).val = k.val → D.rhsIdx j q = r k) :
    matmul D none x y (constant so .f32 0x00000000#32) j = ∑ k, x (l k) * y (r k) := by
  simp only [matmul]
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

/-- A column vector spread over a row. -/
theorem spread {α : Type} {n : ℕ} (v : (⟨2, ![1024, 1]⟩ : Shape).Idx → α) (h : (⟨2, ![1024, 1]⟩ : Shape).Broadcasts ⟨2, ![1024, n]⟩)
    (r : Fin 1024) (c : Fin n) : broadcastTo ⟨2, ![1024, n]⟩ v h (ix2 r c) = v (ix2 r 0) :=
  broadcastTo_apply v h _ _ fun a => match a with
    | ⟨0, _⟩ => rfl
    | ⟨1, _⟩ => rfl

/-- A row's sum, kept as a column. -/
theorem rowSum (y : FVec Ideal S1024x8 .f32) (r : Fin 1024) :
    shapeCast S1024x1 (multiReduction .add [1] S1024 y 0x00000000#32 reduces_S1024x8_S1024 (.inl rfl) rfl) shapeCasts_S1024_S1024x1 (ix2 r 0)
      = ∑ e : Fin 8, y (ix2 r e) := by
  rw [shapeCast_a_a1_apply]
  refine (Ideal.multiReduction_add_single y _ _ _ _ (ix1 r)).trans ?_
  exact Finset.sum_congr rfl fun e _ => congrArg y (ext2 rfl rfl)

/-- A row's maximum, kept as a column. -/
theorem rowMax (y : FVec Ideal S1024x8 .f32) (r : Fin 1024) :
    shapeCast S1024x1 (multiReduction .maximumf [1] S1024 y 0xFF800000#32 reduces_S1024x8_S1024 (.inl rfl) rfl) shapeCasts_S1024_S1024x1 (ix2 r 0)
      = top fun e => y (ix2 r e) := by
  rw [shapeCast_a_a1_apply]
  refine (Ideal.multiReduction_maximumf_single y _ _ _ _ (ix1 r)).trans ?_
  have e : y ∘ reduces_S1024x8_S1024.lift (ix1 r) = fun e : Fin 8 => y (ix2 r e) := funext fun e => congrArg y (ext2 rfl rfl)
  rw [e]
  show Finset.univ.fold max (Ideal.ofBits .f32 0xFF800000#32) _ = _
  rw [bits_bot]
  rfl

/-- The sum of a whole tile, taken as a scalar. -/
theorem tileSum {n : ℕ} (y : FVec Ideal ⟨2, ![1024, n]⟩ .f32) (hc : (⟨2, ![1024, n]⟩ : Shape).ShapeCasts ⟨3, ![1, 1024, n]⟩)
    (h : (⟨3, ![1, 1024, n]⟩ : Shape).Reduces [1, 2] S1) :
    extractAt ![0, 0, 0] (shapeCast S1x1x1 (multiReduction .add [1, 2] S1 (shapeCast ⟨3, ![1, 1024, n]⟩ y hc) 0x00000000#32 h (.inl rfl) rfl)
      shapeCasts_S1_S1x1x1) inpos_S1x1x1_p0_0_0 = ∑ r : Fin 1024, ∑ e : Fin n, y (ix2 r e) := by
  unfold extractAt shapeCast
  dsimp only
  refine (Ideal.multiReduction_add_total _ _ h (fun b => by rw [Subsingleton.elim b 0]; rfl) _ _ _).trans ?_
  rw [← sum_idx2 y]
  exact Equiv.sum_comp (Shape.reshapeEquiv hc) y

variable (x : Vec Ideal S1024x1024 .f32) (g : Vec Ideal S8x1024 .f32)

/-- The logits of row `r` of the tile. -/
def row (r : Fin 1024) : Fin 8 → EReal := fun e => ∑ d : Fin 1024, x (ix2 r d) * g (ix2 e d)

theorem logits_lhs (j : S1024x8.Idx) (q : dot_S1024x1024_S8x1024_S1024x8_1_1_0_0_n_n.contr.Idx) :
    (dot_S1024x1024_S8x1024_S1024x8_1_1_0_0_n_n.lhsIdx j q 0).val = (j 0).val := by
  unfold DotDims.lhsIdx
  rw [dif_neg (by decide), dif_pos (by decide)]
  rfl
theorem logits_rhs (j : S1024x8.Idx) (q : dot_S1024x1024_S8x1024_S1024x8_1_1_0_0_n_n.contr.Idx) :
    (dot_S1024x1024_S8x1024_S1024x8_1_1_0_0_n_n.rhsIdx j q 0).val = (j 1).val := by
  unfold DotDims.rhsIdx
  rw [dif_neg (by decide), dif_pos (by decide)]
  rfl

/-- The logits. -/
theorem pay4_eq (r : Fin 1024) (e : Fin 8) : k0_pay4 (F := Ideal) x g (ix2 r e) = row x g r e := by
  unfold k0_pay4 k0_pay2
  rw [shapeCast_self]
  exact dot_sum dot_S1024x1024_S8x1024_S1024x8_1_1_0_0_n_n 1024 rfl rfl x g (ix2 r e) (fun d => ix2 r d) (fun d => ix2 e d)
    (fun q k hk => ext2 (logits_lhs _ q) ((DotDims.lhsIdx_val_of_single _ rfl _ q).trans hk))
    (fun q k hk => ext2 (logits_rhs _ q) ((DotDims.rhsIdx_val_of_single _ rfl _ q).trans hk))

/-- The rows' maxima. -/
theorem pay5_eq (r : Fin 1024) : k0_pay5 (F := Ideal) x g (ix2 r 0) = top (row x g r) := by
  unfold k0_pay5
  dsimp only
  rw [rowMax]
  simp only [pay4_eq]

/-- The exponentials. -/
theorem pay6_eq (r : Fin 1024) (e : Fin 8) : k0_pay6 (F := Ideal) x g (ix2 r e) = ex (row x g r) e := by
  unfold k0_pay6
  show Ideal.exp (k0_pay4 (F := Ideal) x g (ix2 r e) - broadcastTo S1024x8 (k0_pay5 (F := Ideal) x g) broadcasts_S1024x1_S1024x8 (ix2 r e)) = _
  rw [pay4_eq, spread, pay5_eq]
  rfl

/-- The rows' sums. -/
theorem pay7_eq (r : Fin 1024) : k0_pay7 (F := Ideal) x g (ix2 r 0) = sm (row x g r) := by
  unfold k0_pay7
  dsimp only
  rw [rowSum]
  simp only [pay6_eq]
  rfl

/-- The combine weights. -/
theorem pay8_eq (r : Fin 1024) (e : Fin 8) : k0_pay8 (F := Ideal) x g (ix2 r e) = cw (row x g r) e := by
  have hp : ∀ k : Fin 8, divf (k0_pay6 (F := Ideal) x g) (broadcastTo S1024x8 (k0_pay7 (F := Ideal) x g) broadcasts_S1024x1_S1024x8) (ix2 r k)
      = pr (row x g r) k := fun k => by
    rw [divf_apply, pay6_eq, spread, pay7_eq]
    rfl
  unfold k0_pay8
  dsimp only
  rw [divf_apply, hp, spread, rowSum]
  simp only [hp]
  rfl
theorem pay9_eq (r : Fin 1024) (e : Fin 8) : k0_pay9 (F := Ideal) x g (ix2 r e) = cw (row x g r) e := by
  unfold k0_pay9
  rw [shapeCast_self, pay8_eq]

/-- The tile's z sum. -/
theorem pay10_eq : k0_pay10 (F := Ideal) x g = ∑ r, lz (row x g r) * lz (row x g r) := by
  unfold k0_pay10
  dsimp only
  refine (tileSum _ _ _).trans (Finset.sum_congr rfl fun r _ => ?_)
  rw [Fin.sum_univ_one]
  show (k0_pay5 (F := Ideal) x g (ix2 r 0) + Ideal.log (k0_pay7 (F := Ideal) x g (ix2 r 0)))
    * (k0_pay5 (F := Ideal) x g (ix2 r 0) + Ideal.log (k0_pay7 (F := Ideal) x g (ix2 r 0))) = _
  rw [pay5_eq, pay7_eq]
  rfl

/-- The tile's sum of weights. -/
theorem pay11_eq : k0_pay11 (F := Ideal) x g = ∑ r, ∑ e, cw (row x g r) e := by
  unfold k0_pay11
  dsimp only
  refine (tileSum _ _ _).trans ?_
  simp only [pay8_eq]

end Cert.KernelIdeal.Meaning

end
-- ==== Proof.KExpert.lean ====
/- What one expert adds to one tile of the output: its network on the tile's tokens, weighted by its column of the combine weights. -/
module

public import proofs.«01_k».proof.Proof.KRouter

@[expose] public section

set_option maxRecDepth 16384

noncomputable section

namespace Cert.KernelIdeal.Meaning

open Cert.KernelIdeal Cert.KernelIdeal.Gen Cert.Moe
open Idealize.ShloMosaic Idealize.ShloMosaic.ValueIdx
open scoped BigOperators

theorem up_lhs (j : S1024x2048.Idx) (q : dot_S1024x1024_S1024x2048_S1024x2048_1_0_0_1_n_n.contr.Idx) :
    (dot_S1024x1024_S1024x2048_S1024x2048_1_0_0_1_n_n.lhsIdx j q 0).val = (j 0).val := by
  unfold DotDims.lhsIdx
  rw [dif_neg (by decide), dif_pos (by decide)]
  rfl
theorem up_rhs (j : S1024x2048.Idx) (q : dot_S1024x1024_S1024x2048_S1024x2048_1_0_0_1_n_n.contr.Idx) :
    (dot_S1024x1024_S1024x2048_S1024x2048_1_0_0_1_n_n.rhsIdx j q 1).val = (j 1).val := by
  unfold DotDims.rhsIdx
  rw [dif_neg (by decide), dif_pos (by decide)]
  rfl
theorem down_lhs (j : S1024x1024.Idx) (q : dot_S1024x2048_S2048x1024_S1024x1024_1_0_0_1_n_n.contr.Idx) :
    (dot_S1024x2048_S2048x1024_S1024x1024_1_0_0_1_n_n.lhsIdx j q 0).val = (j 0).val := by
  unfold DotDims.lhsIdx
  rw [dif_neg (by decide), dif_pos (by decide)]
  rfl
theorem down_rhs (j : S1024x1024.Idx) (q : dot_S1024x2048_S2048x1024_S1024x1024_1_0_0_1_n_n.contr.Idx) :
    (dot_S1024x2048_S2048x1024_S1024x1024_1_0_0_1_n_n.rhsIdx j q 1).val = (j 1).val := by
  unfold DotDims.rhsIdx
  rw [dif_neg (by decide), dif_pos (by decide)]
  rfl

/-- The product with the first weights. -/
theorem up_eq (x : FVec Ideal S1024x1024 .bf16) (a : FVec Ideal S1024x2048 .bf16) (r : Fin 1024) (f : Fin 2048) :
    matmul dot_S1024x1024_S1024x2048_S1024x2048_1_0_0_1_n_n none x a (constant S1024x2048 .f32 0x00000000#32) (ix2 r f)
      = ∑ d : Fin 1024, x (ix2 r d) * a (ix2 d f) :=
  dot_sum _ 1024 rfl rfl x a (ix2 r f) (fun d => ix2 r d) (fun d => ix2 d f)
    (fun q k hk => ext2 (up_lhs _ q) ((DotDims.lhsIdx_val_of_single _ rfl _ q).trans hk))
    (fun q k hk => ext2 ((DotDims.rhsIdx_val_of_single _ rfl _ q).trans hk) (up_rhs _ q))
/-- The product with the second weights. -/
theorem down_eq (x : FVec Ideal S1024x2048 .bf16) (b : FVec Ideal S2048x1024 .bf16) (r d : Fin 1024) :
    matmul dot_S1024x2048_S2048x1024_S1024x1024_1_0_0_1_n_n none x b (constant S1024x1024 .f32 0x00000000#32) (ix2 r d)
      = ∑ f : Fin 2048, x (ix2 r f) * b (ix2 f d) :=
  dot_sum _ 2048 rfl rfl x b (ix2 r d) (fun f => ix2 r f) (fun f => ix2 f d)
    (fun q k hk => ext2 (down_lhs _ q) ((DotDims.lhsIdx_val_of_single _ rfl _ q).trans hk))
    (fun q k hk => ext2 ((DotDims.rhsIdx_val_of_single _ rfl _ q).trans hk) (down_rhs _ q))

/-- The activation as the kernel writes it. -/
theorem act_word (h : EReal) : h * (Ideal.ofBits .f32 0x3F000000#32 * Ideal.tanh (Ideal.ofBits .f32 0x3F000000#32 * h) + Ideal.ofBits .f32 0x3F000000#32)
    = act h := by
  rw [bits_half, act_tanh]

/-- Picking lane `e` of a row and summing the row leaves that lane. -/
theorem lane_sum (v : Fin 8 → EReal) (e : Fin 8) :
    ∑ k : Fin 8, Scalar.select (IntOp.cmpi .eq (BitVec.ofNat 32 k.val) (BitVec.ofNat 32 e.val)) (v k) 0 = v e := by
  have h : ∀ k e : Fin 8, IntOp.cmpi .eq (BitVec.ofNat 32 k.val) (BitVec.ofNat 32 e.val) = if k = e then 1#1 else 0#1 := by decide
  rw [Finset.sum_eq_single e]
  · rw [h, if_pos rfl]; exact select_one _ _
  · intro k _ hk
    rw [h, if_neg hk]; exact select_zero _ _
  · exact fun h => absurd (Finset.mem_univ _) h

/-- The expert's contribution. -/
theorem pay16_eq (i : grid0.Coords) (x : Vec Ideal S1024x1024 .bf16) (a : Vec Ideal S1x1024x2048 .f32) (b : Vec Ideal S1x2048x1024 .f32)
    (w : Vec Ideal S1024x8 .f32) (r d : Fin 1024) :
    k0_pay16 (F := Ideal) i x a b w (ix2 r d)
      = (∑ f : Fin 2048, act (∑ k : Fin 1024, x (ix2 r k) * a (ix3 0 k f)) * b (ix3 0 f d)) * w (ix2 r (i 0)) := by
  unfold k0_pay16
  dsimp only
  rw [mulf_apply, down_eq, spread, rowSum]
  refine congrArg₂ (· * ·) (Finset.sum_congr rfl fun f _ => congrArg₂ (· * ·) ?_ ?_) ?_
  · have e := (up_eq x (truncf .bf16 (shapeCast S1024x2048 a shapeCasts_S1x1024x2048_S1024x2048) bitsLt_bf16_f32) r f).trans
      (Finset.sum_congr rfl fun k _ => congrArg (x (ix2 r k) * ·) (shapeCast_1ab_ab_apply a _ k f))
    refine Eq.trans ?_ (congrArg act e)
    rw [← act_word]
    rfl
  · exact shapeCast_1ab_ab_apply b _ f d
  · rw [← lane_sum (fun k => w (ix2 r k)) (i 0)]
    refine Finset.sum_congr rfl fun k _ => ?_
    rw [← Ideal.ofBits_zero_f32]
    show Scalar.select (IntOp.cmpi .eq (iota .tc S1024x8 32 [1] iota_S1024x8_d1_w32 (ix2 r k)) _) _ _ = _
    rw [show iota .tc S1024x8 32 [1] iota_S1024x8_d1_w32 (ix2 r k) = BitVec.ofNat 32 k.val from by
      show BitVec.ofNat 32 (0 * 8 + k.val) = _; rw [Nat.zero_mul, Nat.zero_add]]
    rfl

end Cert.KernelIdeal.Meaning

end
-- ==== Proof.KValue.lean ====
/- What the kernel's three results hold, over the extended reals: the layer's output and its two losses, as functions of the
   arguments the run starts from. -/
module

public import proofs.«01_k».proof.Proof.Run
public import proofs.«01_k».proof.Proof.KExpert

@[expose] public section

set_option maxRecDepth 16384

noncomputable section

namespace Cert.KernelIdeal.Meaning

open Cert.KernelIdeal Cert.KernelIdeal.Gen Cert.KernelIdeal.Hand Cert.Rows Cert.Moe
open Idealize.ShloMosaic Idealize.ShloMosaic.TcCoe Idealize.ShloMosaic.Tactic Idealize.ShloMosaic.ValueIdx
open scoped BigOperators

variable (m : (ℓ : Loc nD τ sig) → Buf (Elt Ideal) ℓ) (c : Dev nD)

/-- The arguments: the tokens, the router's weights, the experts' first and second weights. -/
abbrev ax : SX.Idx → EReal := m ((c.tc : Thread nD τ).loc main_arg0)
abbrev ag : SG.Idx → EReal := m ((c.tc : Thread nD τ).loc main_arg1)
abbrev aa : SA.Idx → EReal := m ((c.tc : Thread nD τ).loc main_arg2)
abbrev ab : SB.Idx → EReal := m ((c.tc : Thread nD τ).loc main_arg4)

/-! ## The blocks the body reads -/

theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_2 : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)
theorem index_3 : ∀ t : Fin cfg0.N, win0_3.index t (0 : Fin 3) = t.val / 2 ∧ win0_3.index t (1 : Fin 3) = 0 ∧ win0_3.index t (2 : Fin 3) = 0 :=
  (by decide +kernel : ∀ t : Fin grid0.N, win0_3.index t (0 : Fin 3) = t.val / 2 ∧ win0_3.index t (1 : Fin 3) = 0 ∧ win0_3.index t (2 : Fin 3) = 0)

/-- The array the first window reads is the tokens without their first axis. -/
theorem tokens_entry : V m c main_v0 = shapeCast S2048x1024 (ax m c) shapeCasts_S1x2048x1024_S2048x1024 := by
  show StableHlo.after (List.flatten [hostOps0]) (fun b => m (c, b)) (Proc.devRef .tc main_v0) = _
  simp only [hostOps0, List.flatten_cons, List.flatten_nil, List.append_nil]
  after_results
  rfl

/-- The first window holds all the tokens at every point. -/
theorem blk_0 (t : Fin cfg0.N) (r : Fin 2048) (d : Fin 1024) : (ins m c t).x (ix2 r d) = ax m c (ix3 0 r d) := by
  obtain ⟨h0, h1⟩ := index_0 t
  have e : ((cfg0.win 0).blk t).view.emb (ix2 r d : S2048x1024.Idx) = (ix2 r d : S2048x1024.Idx) :=
    ext2 (by show win0_0.index t (0 : Fin 2) * 2048 + 1 * r.val = r.val; omega)
      (by show win0_0.index t (1 : Fin 2) * 1024 + 1 * d.val = d.val; omega)
  show V m c main_v0 (((cfg0.win 0).blk t).view.emb (ix2 r d : S2048x1024.Idx)) = _
  rw [e, tokens_entry]
  exact shapeCast_1ab_ab_apply (ax m c) _ r d

/-- The second holds all the router's weights. -/
theorem blk_1 (t : Fin cfg0.N) (e : Fin 8) (d : Fin 1024) : (ins m c t).wg (ix2 e d) = ag m c (ix2 e d) := by
  obtain ⟨h0, h1⟩ := index_1 t
  have h : ((cfg0.win 1).blk t).view.emb (ix2 e d : S8x1024.Idx) = (ix2 e d : S8x1024.Idx) :=
    ext2 (by show win0_1.index t (0 : Fin 2) * 8 + 1 * e.val = e.val; omega)
      (by show win0_1.index t (1 : Fin 2) * 1024 + 1 * d.val = d.val; omega)
  show V m c main_arg1 (((cfg0.win 1).blk t).view.emb (ix2 e d : S8x1024.Idx)) = _
  rw [h, V_main_arg1]

/-- The third holds the first weights of the point's expert. -/
theorem blk_2 (t : Fin cfg0.N) (e : Fin 8) (he : t.val / 2 = e.val) (k : Fin 1024) (f : Fin 2048) :
    (ins m c t).w1 (ix3 0 k f) = aa m c (ix3 e k f) := by
  obtain ⟨h0, h1, h2⟩ := index_2 t
  have h : ((cfg0.win 2).blk t).view.emb (ix3 0 k f : S1x1024x2048.Idx) = (ix3 e k f : S8x1024x2048.Idx) :=
    ext3 (by show win0_2.index t (0 : Fin 3) * 1 + 1 * 0 = e.val; omega)
      (by show win0_2.index t (1 : Fin 3) * 1024 + 1 * k.val = k.val; omega)
      (by show win0_2.index t (2 : Fin 3) * 2048 + 1 * f.val = f.val; omega)
  show V m c main_arg2 (((cfg0.win 2).blk t).view.emb (ix3 0 k f : S1x1024x2048.Idx)) = _
  rw [h, V_main_arg2]

/-- The fourth holds the second weights of the point's expert. -/
theorem blk_3 (t : Fin cfg0.N) (e : Fin 8) (he : t.val / 2 = e.val) (f : Fin 2048) (d : Fin 1024) :
    (ins m c t).w2 (ix3 0 f d) = ab m c (ix3 e f d) := by
  obtain ⟨h0, h1, h2⟩ := index_3 t
  have h : ((cfg0.win 3).blk t).view.emb (ix3 0 f d : S1x2048x1024.Idx) = (ix3 e f d : S8x2048x1024.Idx) :=
    ext3 (by show win0_3.index t (0 : Fin 3) * 1 + 1 * 0 = e.val; omega)
      (by show win0_3.index t (1 : Fin 3) * 2048 + 1 * f.val = f.val; omega)
      (by show win0_3.index t (2 : Fin 3) * 1024 + 1 * d.val = d.val; omega)
  show V m c main_arg4 (((cfg0.win 3).blk t).view.emb (ix3 0 f d : S1x2048x1024.Idx)) = _
  rw [h, V_main_arg4]

/-! ## A tile -/

/-- Row `r` of tile `s` as a token. -/
def tok (s : Fin 2) (r : Fin 1024) : Fin 2048 := ⟨1024 * s.val + r.val, by omega⟩

/-- A tile's tokens. -/
theorem xt_eq (s : Fin 2) (r d : Fin 1024) : xt m c s (ix2 r d) = ax m c (ix3 0 (tok s r) d) := blk_0 m c (pt s.val) (tok s r) d
/-- A tile's logits. -/
theorem row_eq (s : Fin 2) (r : Fin 1024) : row (xt m c s) (wg m c s) r = logits (ax m c) (ag m c) (tok s r) :=
  funext fun e => Finset.sum_congr rfl fun d _ => congrArg₂ (· * ·) (xt_eq m c s r d) (blk_1 m c (pt s.val) e d)
/-- A tile's combine weights. -/
theorem cwT_eq (s : Fin 2) (r : Fin 1024) (e : Fin 8) : cwT m c s (ix2 r e) = cw (logits (ax m c) (ag m c) (tok s r)) e :=
  (pay9_eq _ _ r e).trans (by rw [row_eq])
/-- A tile's rounded tokens are its tokens. -/
theorem xsT_eq (s : Fin 2) (r d : Fin 1024) : xsT m c s (ix2 r d) = ax m c (ix3 0 (tok s r) d) := by
  refine Eq.trans ?_ (xt_eq m c s r d)
  unfold xsT k0_pay3 k0_pay2
  rw [shapeCast_self]
  show shapeCast _ (xt m c s) _ _ = _
  rw [shapeCast_self]
/-- A tile's z sum. -/
theorem zs_eq (s : Fin 2) : zs m c s = ∑ r, lz (logits (ax m c) (ag m c) (tok s r)) * lz (logits (ax m c) (ag m c) (tok s r)) :=
  (pay10_eq _ _).trans (Finset.sum_congr rfl fun r _ => by rw [row_eq])
/-- A tile's sum of combine weights. -/
theorem axs_eq (s : Fin 2) : axs m c s = ∑ r, ∑ e, cw (logits (ax m c) (ag m c) (tok s r)) e :=
  (pay11_eq _ _).trans (Finset.sum_congr rfl fun r _ => by rw [row_eq])

/-! ## The output -/

/-- One expert's contribution to a tile. -/
theorem contrib_eq (s : Fin 2) (e : Fin 8) (r d : Fin 1024) :
    contrib m c s e.val (ix2 r d) = expert (ax m c) (aa m c) (ab m c) (tok s r) e d * cw (logits (ax m c) (ag m c) (tok s r)) e := by
  have hp : (pt (2 * e.val + s.val)).val = 2 * e.val + s.val := Nat.mod_eq_of_lt (by omega)
  have he : (pt (2 * e.val + s.val)).val / 2 = e.val := by rw [hp]; omega
  have hc : grid0.coords (pt (2 * e.val + s.val)) 0 = e := Fin.ext ((coord0 _).trans he)
  refine (pay16_eq _ _ _ _ _ r d).trans (congrArg₂ (· * ·) (Finset.sum_congr rfl fun f _ => congrArg₂ (· * ·) (congrArg act ?_) ?_) ?_)
  · exact Finset.sum_congr rfl fun k _ => congrArg₂ (· * ·) (xsT_eq m c s r k) (blk_2 m c _ e he k f)
  · exact blk_3 m c _ e he f d
  · rw [hc]; exact cwT_eq m c s r e

/-- A tile after the experts `0` to `e` is the sum of what they add to it. -/
theorem acc_eq (s : Fin 2) (r d : Fin 1024) : ∀ e : ℕ, acc m c s e (ix2 r d) = ∑ k ∈ Finset.range (e + 1), (contrib m c s k (ix2 r d) : EReal)
  | 0 => (Finset.sum_range_one fun k => (contrib m c s k (ix2 r d) : EReal)).symm
  | e + 1 => by
    rw [Finset.sum_range_succ, ← acc_eq s r d e]
    show k0_pay1 (contrib m c s (e + 1)) (acc m c s e) (ix2 r d) = _
    unfold k0_pay1
    rw [addf_apply, shapeCast_self]

/-- The output rows. -/
theorem outRows_eq (t : Fin 2048) (d : Fin 1024) : outRows m c (ix2 t d) = out (ax m c) (ag m c) (aa m c) (ab m c) t d := by
  have ht : tok ⟨t.val / 1024, by omega⟩ ⟨t.val % 1024, by omega⟩ = t := Fin.ext (by show 1024 * (t.val / 1024) + t.val % 1024 = t.val; omega)
  show acc m c ⟨t.val / 1024, _⟩ 7 (ix2 ⟨t.val % 1024, _⟩ d) = _
  rw [acc_eq, Finset.sum_range]
  unfold out
  refine Finset.sum_congr rfl fun e _ => ?_
  rw [contrib_eq, ht]

/-- The first result is the layer's output. -/
theorem res0_eq (t : Fin 2048) (d : Fin 1024) : res0 m c (ix3 0 t d) = out (ax m c) (ag m c) (aa m c) (ab m c) t d :=
  (shapeCast_ab_1ab_apply (outRows m c) _ 0 t d).trans (outRows_eq m c t d)

/-! ## The losses -/

/-- A sum over the tokens is the sum over the two tiles. -/
theorem sum_tiles (f : Fin 2048 → EReal) : (∑ r, f (tok 0 r)) + (∑ r, f (tok 1 r)) = ∑ t, f t := by
  rw [sum_halves]
  refine congrArg₂ (· + ·) (Finset.sum_congr rfl fun r _ => congrArg f (Fin.ext ?_)) rfl
  show 1024 * 0 + r.val = r.val
  omega

/-- The second result is the auxiliary loss. -/
theorem res1_eq (i : S_.Idx) : res1 m c i = aux (ax m c) (ag m c) := by
  show Ideal.div ((axs m c 0 + axs m c 1) * Ideal.ofBits .f32 0x42800000#32) (Ideal.ofBits .f32 0x46800000#32) = _
  rw [bits_64, bits_16384, axs_eq, axs_eq, sum_tiles fun t => ∑ e, cw (logits (ax m c) (ag m c) t) e]
  rfl

/-- The third result is the z loss. -/
theorem res2_eq (i : S_.Idx) : res2 m c i = zLoss (ax m c) (ag m c) := by
  show Ideal.div (zs m c 0 + zs m c 1) (Ideal.ofBits .f32 0x45000000#32) = _
  rw [bits_2048, zs_eq, zs_eq, sum_tiles fun t => lz (logits (ax m c) (ag m c) t) * lz (logits (ax m c) (ag m c) t)]
  rfl

end Cert.KernelIdeal.Meaning

end
-- ==== Proof.RefRouter.lean ====
/- What the reference's router computes: the logits, the softmax, the sorted weights with their experts, the z loss. -/
module

public import proofs.«01_k».proof.Proof.Spec
public import proofs.«01_k».proof.Proof.Gen.ReferenceIdeal.Read
public import Idealize.ShloMosaic.Lib.SortFacts
public import Idealize.ShloMosaic.Lib.ValueIdxRank1

@[expose] public section

set_option maxRecDepth 16384

noncomputable section

namespace Cert.ReferenceIdeal.Meaning

open Cert.ReferenceIdeal Cert.ReferenceIdeal.Gen Cert.ReferenceIdeal.Read Cert.Moe
open Idealize.ShloMosaic Idealize.ShloMosaic.ValueIdx
open scoped BigOperators

variable (x0 : (⟨S1x2048x1024, .f32⟩ : BufTy).Contents (Elt Ideal)) (x1 : (⟨S8x1024, .f32⟩ : BufTy).Contents (Elt Ideal))

/-- The tokens as a matrix. -/
theorem tokens (t : Fin 2048) (d : Fin 1024) : val_main_v0 (F := Ideal) x0 (ix2 t d) = x0 (ix3 0 t d) := by
  rw [val_main_v0_apply]
  exact congrArg x0 (ext3 rfl (by show (t.val * 1024 + d.val) / 1024 % 2048 = t.val; omega)
    (by show (t.val * 1024 + d.val) % 1024 = d.val; omega))

/-- The logits. -/
theorem logits_eq (t : Fin 2048) (e : Fin 8) : val_main_v2 (F := Ideal) x0 x1 (ix2 t e) = logits x0 x1 t e := by
  rw [val_main_v2_apply]
  refine Finset.sum_congr rfl fun d _ => ?_
  rw [show lidx_main_v2 (ix2 t e) d = ix2 t d from ext2 rfl rfl, tokens, val_main_v1_apply]
  exact congrArg (x0 (ix3 0 t d) * ·) (congrArg x1 (ext2 rfl rfl))

/-- A row's maximum from minus infinity. -/
theorem rowMax (y : FVec Ideal S2048x8 .f32) (v : FVec Ideal S_ .f32) (hv : v = fun _ => ⊥) (t : Fin 2048) :
    Host.reduce FloatOps.maximumf y v reducesTo_S2048x8_S2048_d1 h_S_ (ix1 t) = top fun e => y (ix2 t e) := by
  rw [Host.reduce_eq_fold_single FloatOps.maximumf y v reducesTo_S2048x8_S2048_d1 (by decide) h_S_, hv]
  have e : y ∘ Shape.Reduces.lift (s := S2048x8) (a := 1) (t := S2048) (by decide) (ix1 t) = fun e => y (ix2 t e) :=
    funext fun e => congrArg y (ext2 rfl rfl)
  rw [e]
  rfl

theorem bot_fun (w : BitVec 32) (h : w = 0xFF800000#32) : (constant S_ .f32 w : FVec Ideal S_ .f32) = fun _ => ⊥ :=
  funext fun _ => by rw [h]; exact bits_bot

/-- The largest logit, as the softmax takes it, -/
theorem max_eq (t : Fin 2048) : val_main_v5 (F := Ideal) x0 x1 (ix1 t) = top (logits x0 x1 t) := by
  rw [val_main_v5_apply, val_main_v4_apply, val_main_cst_0_apply]
  unfold val_main_v3 val_main_cst
  rw [rowMax _ _ (bot_fun _ rfl)]
  simp only [logits_eq]
  show max (Ideal.ofBits .f32 0xFF800000#32) _ = _
  rw [bits_bot]
  exact max_eq_right bot_le
/-- and as the z loss takes it. -/
theorem max_eq' (t : Fin 2048) : val_main_v18 (F := Ideal) x0 x1 (ix1 t) = top (logits x0 x1 t) := by
  unfold val_main_v18 val_main_cst_3
  rw [rowMax _ _ (bot_fun _ rfl)]
  simp only [logits_eq]

/-- The exponentials. -/
theorem exp_eq (t : Fin 2048) (e : Fin 8) : val_main_v9 (F := Ideal) x0 x1 (ix2 t e) = ex (logits x0 x1 t) e := by
  rw [val_main_v9_apply, val_main_v8_apply, logits_eq, val_main_v7_apply, val_main_v6_apply,
    show idx_main_v6 (idx_main_v7 (ix2 t e)) = ix1 t from ext1 rfl, max_eq]
  rfl

/-- The softmax. -/
theorem probs_eq (t : Fin 2048) (e : Fin 8) : val_main_v13 (F := Ideal) x0 x1 (ix2 t e) = pr (logits x0 x1 t) e := by
  rw [val_main_v13_apply, exp_eq, val_main_v12_apply, val_main_v11_apply,
    show idx_main_v11 (idx_main_v12 (ix2 t e)) = ix1 t from ext1 rfl, val_main_v10_apply]
  have h : ∀ k : Fin 8, val_main_v9 (F := Ideal) x0 x1 (idx_main_v10 (ix1 t) k) = ex (logits x0 x1 t) k := fun k => by
    rw [show idx_main_v10 (ix1 t) k = ix2 t k from ext2 rfl rfl, exp_eq]
  simp only [h]
  rw [val_main_cst_1_apply]
  show Ideal.div _ (Ideal.ofBits .f32 0x00000000#32 + sm (logits x0 x1 t)) = _
  rw [Ideal.ofBits_zero_f32, zero_add]
  rfl

/-! ## The sorted weights -/

/-- The expert in place `k` of token `t`'s sorted experts. -/
def place (t : Fin 2048) : Fin 8 → Fin 8 :=
  sortedFrom fun k k' => FloatOps.cmpfTotal (F := Ideal) (φ := .f32) .gt (val_main_v13 (F := Ideal) x0 x1 (ix2 t k)) (val_main_v13 (F := Ideal) x0 x1 (ix2 t k')) == 1#1

theorem place_bijective (t : Fin 2048) : Function.Bijective (place x0 x1 t) :=
  ⟨sortedFrom_injective _, sortedFrom_surjective _⟩

/-- The sorted experts of a token are its experts in another order. -/
def perm (t : Fin 2048) : Equiv.Perm (Fin 8) := Equiv.ofBijective _ (place_bijective x0 x1 t)

theorem along_eq (t : Fin 2048) (k k' : Fin 8) : (ix2 t k : S2048x8.Idx).along 1 k' = ix2 t k' := by
  unfold Shape.Idx.along
  exact ext2 rfl rfl

/-- A slice that keeps everything. -/
theorem slice_all {α : Type} (y : S2048x8.Idx → α) (h : S2048x8.Slices (fun _ => 0) S2048x8) (t : Fin 2048) (k : Fin 8) :
    extractStridedSlice S2048x8 (fun _ => 0) y h (ix2 t k) = y (ix2 t k) :=
  congrArg y (ext2 (Nat.zero_add _) (Nat.zero_add _))

/-- The values in order. -/
theorem values_eq (t : Fin 2048) (k : Fin 8) : val_main_values (F := Ideal) x0 x1 (ix2 t k) = pr (logits x0 x1 t) (perm x0 x1 t k) := by
  rw [← probs_eq]
  unfold val_main_values Host.topK Host.sort2
  have h1 : (1 : ℕ) < S2048x8.rank := by decide
  simp only [dif_pos h1]
  refine (slice_all _ _ t k).trans ?_
  have e : ∀ k', (ix2 t k : S2048x8.Idx).along ⟨1, h1⟩ k' = ix2 t k' := along_eq t k
  simp only [e]
  rfl
/-- The experts in order. -/
theorem indices_eq (t : Fin 2048) (k : Fin 8) : val_main_indices (F := Ideal) x0 x1 (ix2 t k) = BitVec.ofNat 32 (perm x0 x1 t k).val := by
  unfold val_main_indices Host.topK Host.sort2
  have h1 : (1 : ℕ) < S2048x8.rank := by decide
  simp only [dif_pos h1]
  refine (slice_all _ _ t k).trans ?_
  have e : ∀ k', (ix2 t k : S2048x8.Idx).along ⟨1, h1⟩ k' = ix2 t k' := along_eq t k
  simp only [e]
  rfl

/-- A sum over a token's sorted experts is the sum over its experts. -/
theorem sum_perm (t : Fin 2048) (f : Fin 8 → EReal) : ∑ k, f (perm x0 x1 t k) = ∑ e, f e := Equiv.sum_comp _ f

/-- The weights in order. -/
theorem weights_eq (t : Fin 2048) (k : Fin 8) : val_main_v17 (F := Ideal) x0 x1 (ix2 t k) = cw (logits x0 x1 t) (perm x0 x1 t k) := by
  rw [val_main_v17_apply, values_eq, val_main_v16_apply, val_main_v15_apply,
    show idx_main_v15 (idx_main_v16 (ix2 t k)) = ix1 t from ext1 rfl, val_main_v14_apply]
  have h : ∀ j : Fin 8, val_main_values (F := Ideal) x0 x1 (idx_main_v14 (ix1 t) j) = pr (logits x0 x1 t) (perm x0 x1 t j) := fun j => by
    rw [show idx_main_v14 (ix1 t) j = ix2 t j from ext2 rfl rfl, values_eq]
  simp only [h]
  rw [sum_perm, val_main_cst_2_apply]
  show Ideal.div _ (Ideal.ofBits .f32 0x00000000#32 + _) = _
  rw [Ideal.ofBits_zero_f32, zero_add]
  rfl

/-! ## The z loss -/

/-- The largest logit where it is finite, and zero where it is not. -/
theorem guard_eq (t : Fin 2048) : val_main_v23 (F := Ideal) x0 x1 (ix2 t 0) = fin (top (logits x0 x1 t)) := by
  rw [val_main_v23_apply, val_main_v22_apply, val_main_v20_apply, val_main_v19_apply, val_main_v21_apply, val_main_cst_4_apply,
    val_main_call0_v1_apply, val_main_call0_v0_apply, val_main_cst_5_apply,
    show idx_main_v19 (ix2 t 0) = ix1 t from ext1 rfl, max_eq']
  show Scalar.select (BitVec.ofBool (decide (max (top (logits x0 x1 t)) (-top (logits x0 x1 t)) < Ideal.ofBits .f32 0x7F800000#32)))
    (top (logits x0 x1 t)) (Ideal.ofBits .f32 0x00000000#32) = _
  rw [bits_top, Ideal.ofBits_zero_f32]
  unfold fin
  by_cases h : max (top (logits x0 x1 t)) (-top (logits x0 x1 t)) < ⊤
  · rw [if_pos h, decide_eq_true h]; exact select_one _ _
  · rw [if_neg h, decide_eq_false h]; exact select_zero _ _

/-- One token's square. -/
theorem square_eq (t : Fin 2048) : val_main_v31 (F := Ideal) x0 x1 (ix1 t) = lz (logits x0 x1 t) * lz (logits x0 x1 t) := by
  rw [← lz_sq, val_main_v31_apply, val_main_v30_apply, val_main_v28_apply, val_main_v29_apply, val_main_v27_apply,
    show idx_main_v29 (ix1 t) = ix2 t 0 from ext2 (by show t.val / 1 = t.val; omega) rfl, guard_eq]
  have h : ∀ k : Fin 8, val_main_v26 (F := Ideal) x0 x1 (idx_main_v27 (ix1 t) k)
      = Ideal.exp (logits x0 x1 t k - fin (top (logits x0 x1 t))) := fun k => by
    rw [show idx_main_v27 (ix1 t) k = ix2 t k from ext2 rfl rfl, val_main_v26_apply, val_main_v25_apply, logits_eq, val_main_v24_apply,
      show idx_main_v24 (ix2 t k) = ix2 t 0 from ext2 rfl rfl, guard_eq]
    rfl
  simp only [h]
  rw [val_main_cst_6_apply]
  show (Ideal.log (Ideal.ofBits .f32 0x00000000#32 + _) + _) * (Ideal.log (Ideal.ofBits .f32 0x00000000#32 + _) + _) = _
  rw [Ideal.ofBits_zero_f32, zero_add]

/-- The z loss. -/
theorem z_eq (i : S_.Idx) : val_main_v33 (F := Ideal) x0 x1 i = zLoss x0 x1 := by
  rw [val_main_v33_apply, val_main_v32_apply, val_main_cst_7_apply, val_main_cst_8_apply,
    ← Equiv.sum_comp (idxEquiv1 (n := 2048)).symm]
  have h : ∀ t : Fin 2048, val_main_v31 (F := Ideal) x0 x1 ((idxEquiv1 (n := 2048)).symm t) = lz (logits x0 x1 t) * lz (logits x0 x1 t) := fun t =>
    square_eq x0 x1 t
  simp only [h]
  show Ideal.div (Ideal.ofBits .f32 0x00000000#32 + _) (Ideal.ofBits .f32 0x45000000#32) = _
  rw [Ideal.ofBits_zero_f32, zero_add, bits_2048]
  rfl

end Cert.ReferenceIdeal.Meaning

end
-- ==== Proof.RefOut.lean ====
/- The reference's output: the weights scattered back to their experts, the experts' networks, and their weighted sum. -/
module

public import proofs.«01_k».proof.Proof.RefRouter

@[expose] public section

set_option maxRecDepth 16384

noncomputable section

namespace Cert.ReferenceIdeal.Meaning

open Cert.ReferenceIdeal Cert.ReferenceIdeal.Gen Cert.ReferenceIdeal.Read Cert.Moe
open Idealize.ShloMosaic Idealize.ShloMosaic.ValueIdx
open scoped BigOperators

variable (x0 : (⟨S1x2048x1024, .f32⟩ : BufTy).Contents (Elt Ideal)) (x1 : (⟨S8x1024, .f32⟩ : BufTy).Contents (Elt Ideal))

/-! ## Where the scatter writes -/

theorem slt_zero (n : ℕ) (h : n < 2048) : IntOp.cmpi .slt (BitVec.ofNat 32 n) 0#32 = 0#1 := by
  have e : (BitVec.ofNat 32 n).toInt = n := by rw [BitVec.toInt_ofNat']; norm_num [Int.bmod]; omega
  show BitVec.ofBool ((BitVec.ofNat 32 n).slt 0#32) = 0#1
  rw [BitVec.slt, e, show (0#32 : BitVec 32).toInt = 0 from rfl, decide_eq_false (by omega)]
  rfl

/-- The row a weight goes to. -/
theorem row_eq (t : Fin 2048) (k : Fin 8) : val_main_v61 (F := Ideal) (ix3 t k 0) = BitVec.ofNat 32 t.val := by
  rw [val_main_v61_apply, val_main_v60_apply, show idx_main_v60 (idx_main_v61 (ix3 t k 0)) = ix2 t 0 from ext2 rfl rfl,
    val_main_v54_apply, val_main_v51_apply, val_main_v49_apply, val_main_v48_apply, val_main_v50_apply, val_main_c_17_apply]
  show Scalar.select (IntOp.cmpi .slt (BitVec.ofNat 32 t.val) 0#32) _ (BitVec.ofNat 32 t.val) = _
  rw [slt_zero t.val t.isLt]
  exact select_zero _ _
/-- The column a weight goes to. -/
theorem col_eq (t : Fin 2048) (k : Fin 8) : val_main_v62 (F := Ideal) x0 x1 (ix3 t k 0) = BitVec.ofNat 32 (perm x0 x1 t k).val := by
  rw [val_main_v62_apply, show idx_main_v62 (ix3 t k 0) = ix2 t k from ext2 rfl rfl,
    val_main_v59_apply, val_main_v56_apply, indices_eq, val_main_v55_apply, val_main_c_19_apply,
    slt_zero _ (lt_trans (perm x0 x1 t k).isLt (by norm_num))]
  exact select_zero _ _

/-- The start index's two components. -/
theorem start_row (t : Fin 2048) (k : Fin 8) : val_main_v63 (F := Ideal) x0 x1 (ix3 t k 0) = BitVec.ofNat 32 t.val := by
  rw [← row_eq t k]
  unfold val_main_v63
  exact concatenate_pair_apply_left (t := S2048x8x2) (s₁ := S2048x8x1) (s₂ := S2048x8x1) 2 _ _ _ _ rfl (ix3 t k 0 : S2048x8x1.Idx)
    (fun b => match b with | ⟨0, _⟩ => rfl | ⟨1, _⟩ => rfl | ⟨2, _⟩ => rfl)
theorem start_col (t : Fin 2048) (k : Fin 8) : val_main_v63 (F := Ideal) x0 x1 (ix3 t k 1) = BitVec.ofNat 32 (perm x0 x1 t k).val := by
  rw [← col_eq x0 x1 t k]
  unfold val_main_v63
  exact concatenate_pair_apply_right (t := S2048x8x2) (s₁ := S2048x8x1) (s₂ := S2048x8x1) 2 _ _ _ _ rfl rfl (ix3 t k 0 : S2048x8x1.Idx)
    (fun b => match b with | ⟨0, _⟩ => fun _ => rfl | ⟨1, _⟩ => fun _ => rfl | ⟨2, _⟩ => fun h => absurd rfl h) rfl

theorem toInt_small (n : ℕ) (h : n < 2048) : (BitVec.ofNat 32 n).toInt = n := by
  rw [BitVec.toInt_ofNat']; norm_num [Int.bmod]; omega

/-- An update lands where its start and window coordinates add up to. -/
theorem resultIdx_of {s si u : Shape} (d : ScatterDims s si u) {w : ℕ} (j : u.Idx) (idx : IVec si w) (r : s.Idx)
    (h : ∀ a, d.start j idx a + d.window j a = ((r a).val : Int)) : d.resultIdx? j idx = some r := by
  unfold ScatterDims.resultIdx?
  rw [dif_pos fun a => by rw [h a]; have := (r a).isLt; omega]
  exact congrArg some (funext fun a => Fin.ext (by dsimp only; rw [h a]; exact Int.toNat_natCast _))

/-- Place `k` of token `t` lands at the token's row and the place's expert. -/
theorem lands (t : Fin 2048) (k : Fin 8) :
    scatter_S2048x8_S2048x8x2_S2048x8_n_01_01_2.resultIdx? (ix2 t k) (val_main_v63 (F := Ideal) x0 x1) = some (ix2 t (perm x0 x1 t k)) := by
  have w : ∀ a, scatter_S2048x8_S2048x8x2_S2048x8_n_01_01_2.window (ix2 t k) a = 0 := fun a =>
    dif_neg (by revert a; decide)
  have s0 : scatter_S2048x8_S2048x8x2_S2048x8_n_01_01_2.start (ix2 t k) (val_main_v63 (F := Ideal) x0 x1) 0 = (t.val : Int) := by
    unfold ScatterDims.start
    rw [dif_pos (by decide), ← toInt_small t.val t.isLt, ← start_row x0 x1 t k]
    exact congrArg (fun i => (val_main_v63 (F := Ideal) x0 x1 i).toInt) (ext3 rfl rfl rfl)
  have s1 : scatter_S2048x8_S2048x8x2_S2048x8_n_01_01_2.start (ix2 t k) (val_main_v63 (F := Ideal) x0 x1) 1 = ((perm x0 x1 t k).val : Int) := by
    unfold ScatterDims.start
    rw [dif_pos (by decide), ← toInt_small (perm x0 x1 t k).val (lt_trans (perm x0 x1 t k).isLt (by norm_num)), ← start_col x0 x1 t k]
    exact congrArg (fun i => (val_main_v63 (F := Ideal) x0 x1 i).toInt) (ext3 rfl rfl rfl)
  refine resultIdx_of _ _ _ _ fun a => ?_
  rw [w a]
  refine (add_zero _).trans ?_
  revert a
  exact Fin.forall_fin_two.2 ⟨s0, s1⟩

/-- The scattered weights. -/
theorem combine_eq (t : Fin 2048) (e : Fin 8) : val_main_v64 (F := Ideal) x0 x1 (ix2 t e) = cw (logits x0 x1 t) e := by
  unfold val_main_v64
  show Ideal.hostScatterAdd scatter_S2048x8_S2048x8x2_S2048x8_n_01_01_2 _ _ _ (ix2 t e) = _
  unfold Ideal.hostScatterAdd
  rw [val_main_v47_apply, val_main_cst_16_apply, Finset.sum_filter, sum_idx2]
  simp only [lands, weights_eq]
  rw [show (FloatOps.ofBits .f32 0x00000000#32 : Ideal .f32) = (0 : EReal) from Ideal.ofBits_zero_f32]
  refine (zero_add _).trans ?_
  rw [Finset.sum_eq_single t, Finset.sum_eq_single ((perm x0 x1 t).symm e)]
  · rw [Equiv.apply_symm_apply, if_pos rfl]
  · intro k _ hk
    refine if_neg fun h => hk ?_
    have h1 : perm x0 x1 t k = e := congrFun (Option.some.inj h) 1
    rw [← h1, Equiv.symm_apply_apply]
  · exact fun h => absurd (Finset.mem_univ _) h
  · intro t' _ ht
    refine Finset.sum_eq_zero fun k _ => if_neg fun h => ht ?_
    exact congrFun (Option.some.inj h) 0
  · exact fun h => absurd (Finset.mem_univ _) h

/-! ## The experts -/

variable (x2 : (⟨S8x1024x2048, .f32⟩ : BufTy).Contents (Elt Ideal)) (x3 : (⟨S8x2048, .f32⟩ : BufTy).Contents (Elt Ideal))
  (x4 : (⟨S8x2048x1024, .f32⟩ : BufTy).Contents (Elt Ideal)) (x5 : (⟨S8x1024, .f32⟩ : BufTy).Contents (Elt Ideal))

/-- The hidden layer of an expert without biases. -/
theorem hidden_eq (h3 : ∀ i, x3 i = (0 : EReal)) (t : Fin 2048) (e : Fin 8) (f : Fin 2048) :
    val_main_v68 (F := Ideal) x0 x2 x3 (ix3 t e f) = hid x0 x2 t e f := by
  rw [val_main_v68_apply, val_main_v67_apply, val_main_v66_apply, h3, val_main_v65_apply]
  refine (add_zero _).trans (Finset.sum_congr rfl fun d _ => ?_)
  rw [show lidx_main_v65 (ix3 t e f) d = ix2 t d from ext2 rfl rfl, tokens,
    show ridx_main_v65 (ix3 t e f) d = ix3 e d f from ext3 rfl rfl rfl]

/-- The activation. -/
theorem act_eq (h3 : ∀ i, x3 i = (0 : EReal)) (t : Fin 2048) (e : Fin 8) (f : Fin 2048) :
    val_main_v69 (F := Ideal) x0 x2 x3 (ix3 t e f) = act (hid x0 x2 t e f) := by
  rw [val_main_v69_apply, val_main_call2_v5_apply, val_main_call2_v4_apply, val_main_call2_v3_apply, val_main_call2_v2_apply,
    val_main_call2_v1_apply, val_main_call2_v0_apply, val_main_call2_cst_apply, val_main_call2_cst_0_apply, hidden_eq x0 x2 x3 h3]
  show hid x0 x2 t e f * Ideal.div (Ideal.ofBits .f32 0x3F800000#32) (Ideal.ofBits .f32 0x3F800000#32 + Ideal.exp (-hid x0 x2 t e f)) = _
  rw [Ideal.ofBits_one_f32]
  rfl

/-- An expert's output without biases. -/
theorem expert_eq (h3 : ∀ i, x3 i = (0 : EReal)) (h5 : ∀ i, x5 i = (0 : EReal)) (t : Fin 2048) (e : Fin 8) (d : Fin 1024) :
    val_main_v74 (F := Ideal) x0 x2 x3 x4 x5 (ix3 t e d) = expert x0 x2 x4 t e d := by
  rw [val_main_v74_apply, val_main_v73_apply, val_main_v72_apply, h5, val_main_v71_apply, val_main_v70_apply]
  refine (add_zero _).trans (Finset.sum_congr rfl fun f _ => ?_)
  rw [show ridx_main_v70 (idx_main_v71 (ix3 t e d)) f = ix3 t e f from ext3 rfl rfl rfl, act_eq x0 x2 x3 h3,
    show lidx_main_v70 (idx_main_v71 (ix3 t e d)) f = ix3 e f d from ext3 rfl rfl rfl]
  exact mul_comm _ _

/-- The output without biases. -/
theorem out_eq (h3 : ∀ i, x3 i = (0 : EReal)) (h5 : ∀ i, x5 i = (0 : EReal)) (t : Fin 2048) (d : Fin 1024) :
    val_main_v76 (F := Ideal) x0 x1 x2 x3 x4 x5 (ix3 0 t d) = out x0 x1 x2 x4 t d := by
  rw [val_main_v76_apply, show idx_main_v76 (ix3 0 t d) = ix2 t d from
      ext2 (by show ((0 * 2048 + t.val) * 1024 + d.val) / 1024 = t.val; omega)
        (by show ((0 * 2048 + t.val) * 1024 + d.val) % 1024 = d.val; omega), val_main_v75_apply]
  refine Finset.sum_congr rfl fun e _ => ?_
  rw [show lidx_main_v75 (ix2 t d) e = ix2 t e from ext2 rfl rfl, combine_eq,
    show ridx_main_v75 (ix2 t d) e = ix3 t e d from ext3 rfl rfl rfl, expert_eq x0 x2 x3 x4 x5 h3 h5]
  exact mul_comm _ _

end Cert.ReferenceIdeal.Meaning

end
-- ==== Proof.RefAux.lean ====
/- The reference's balance loss: the share of tokens that reach an expert is one, since every token goes to all eight. -/
module

public import proofs.«01_k».proof.Proof.RefRouter

@[expose] public section

set_option maxRecDepth 16384

noncomputable section

namespace Cert.ReferenceIdeal.Meaning

open Cert.ReferenceIdeal Cert.ReferenceIdeal.Gen Cert.ReferenceIdeal.Read Cert.Moe
open Idealize.ShloMosaic Idealize.ShloMosaic.ValueIdx
open scoped BigOperators

variable (x0 : (⟨S1x2048x1024, .f32⟩ : BufTy).Contents (Elt Ideal)) (x1 : (⟨S8x1024, .f32⟩ : BufTy).Contents (Elt Ideal))

/-- The one-hot mask: token `t`'s place `k` holds expert `e`. -/
theorem mask_eq (t : Fin 2048) (k e : Fin 8) :
    val_main_v37 (F := Ideal) x0 x1 (ix3 t k e) = if perm x0 x1 t k = e then 1#32 else 0#32 := by
  rw [val_main_v37_apply, val_main_call1_v4_apply, val_main_call1_v2_apply, val_main_call1_v0_apply, val_main_call1_v3_apply,
    val_main_call1_v1_apply, show idx_main_call1_v0 (idx_main_call1_v2 (ix3 t k e)) = ix2 t k from ext2 rfl rfl, indices_eq]
  show (IntOp.cmpi .eq (BitVec.ofNat 32 (perm x0 x1 t k).val) (BitVec.ofNat 32 e.val)).setWidth 32 = _
  generalize perm x0 x1 t k = p
  revert p e
  decide

/-- The largest of some zeros and ones, one of them a one, is one. -/
theorem fold_ones {n : ℕ} (f : Fin n → BitVec 32) (hf : ∀ k, f k = 0#32 ∨ f k = 1#32) (s : Finset (Fin n)) :
    (s.fold IntOp.maxsi 2147483648#32 f = 2147483648#32 ∨ s.fold IntOp.maxsi 2147483648#32 f = 0#32 ∨ s.fold IntOp.maxsi 2147483648#32 f = 1#32)
      ∧ ((∃ k ∈ s, f k = 1#32) → s.fold IntOp.maxsi 2147483648#32 f = 1#32) := by
  induction s using Finset.induction_on with
  | empty => exact ⟨.inl rfl, fun ⟨k, hk, _⟩ => absurd hk (Finset.notMem_empty k)⟩
  | insert a s ha ih =>
    rw [Finset.fold_insert ha]
    obtain ⟨hr, h1⟩ := ih
    have key : ∀ x, (x = 0#32 ∨ x = 1#32) → ∀ r : BitVec 32, (r = 2147483648#32 ∨ r = 0#32 ∨ r = 1#32) →
        (IntOp.maxsi x r = 2147483648#32 ∨ IntOp.maxsi x r = 0#32 ∨ IntOp.maxsi x r = 1#32)
          ∧ ((x = 1#32 ∨ r = 1#32) → IntOp.maxsi x r = 1#32) := by
      rintro x (rfl | rfl) r (rfl | rfl | rfl) <;> decide
    refine ⟨(key _ (hf a) _ hr).1, fun ⟨k, hk, hk1⟩ => (key _ (hf a) _ hr).2 ?_⟩
    rcases Finset.mem_insert.1 hk with rfl | hk
    · exact .inl hk1
    · exact .inr (h1 ⟨k, hk, hk1⟩)

/-- The largest over the places of a token's row at one expert. -/
theorem placeMax (y : IVec S2048x8x8 32) (v : IVec S_ 32) (hv : v = fun _ => 2147483648#32) (t : Fin 2048) (e : Fin 8) :
    Host.reduce IntOp.maxsi y v reducesTo_S2048x8x8_S2048x8_d1 h_S_ (ix2 t e)
      = Finset.univ.fold IntOp.maxsi 2147483648#32 fun k : Fin 8 => y (ix3 t k e) := by
  rw [Host.reduce_eq_fold_single IntOp.maxsi y v reducesTo_S2048x8x8_S2048x8_d1 (by decide) h_S_, hv]
  have h : y ∘ Shape.Reduces.lift (s := S2048x8x8) (a := 1) (t := S2048x8) (by decide) (ix2 t e) = fun k : Fin 8 => y (ix3 t k e) :=
    funext fun k => congrArg y (ext3 rfl rfl rfl)
  rw [h]
  rfl

/-- Every token reaches every expert. -/
theorem reached (t : Fin 2048) (e : Fin 8) : val_main_v38 (F := Ideal) x0 x1 (ix2 t e) = 1#32 := by
  unfold val_main_v38
  rw [placeMax _ (val_main_c (F := Ideal)) rfl]
  simp only [mask_eq]
  refine (fold_ones (fun k : Fin 8 => if perm x0 x1 t k = e then 1#32 else 0#32) (fun k => ?_) Finset.univ).2
    ⟨(perm x0 x1 t).symm e, Finset.mem_univ _, ?_⟩
  · split
    · exact .inr rfl
    · exact .inl rfl
  · simp

/-- The share of tokens reaching an expert. -/
theorem share (e : Fin 8) : val_main_v42 (F := Ideal) x0 x1 (ix1 e) = 1 := by
  rw [val_main_v42_apply, val_main_v40_apply, val_main_v41_apply, val_main_cst_12_apply, val_main_cst_11_apply]
  have h : ∀ t : Fin 2048, val_main_v39 (F := Ideal) x0 x1 (idx_main_v40 (ix1 e) t) = 1 := fun t => by
    rw [show idx_main_v40 (ix1 e) t = ix2 t e from ext2 rfl rfl, val_main_v39_apply, reached]
    show (((1#32 : BitVec 32).toInt : ℝ) : EReal) = 1
    simp
  simp only [h]
  show Ideal.div (Ideal.ofBits .f32 0x00000000#32 + _) (Ideal.ofBits .f32 0x45000000#32) = _
  rw [Ideal.ofBits_zero_f32, zero_add, bits_2048, Finset.sum_const, Finset.card_univ, Fintype.card_fin, nsmul_one,
    show ((2048 : ℕ) : EReal) = ((2048 : ℝ) : EReal) by norm_cast, div_coe _ _ (by norm_num), ← EReal.coe_mul]
  norm_num

/-- The mean weight in place `k`. -/
theorem meanWeight (k : Fin 8) : val_main_v36 (F := Ideal) x0 x1 (ix1 k)
    = Ideal.div (∑ t, cw (logits x0 x1 t) (perm x0 x1 t k)) ((2048 : ℝ) : EReal) := by
  rw [val_main_v36_apply, val_main_v34_apply, val_main_v35_apply, val_main_cst_10_apply, val_main_cst_9_apply]
  have h : ∀ t : Fin 2048, val_main_v17 (F := Ideal) x0 x1 (idx_main_v34 (ix1 k) t) = cw (logits x0 x1 t) (perm x0 x1 t k) := fun t => by
    rw [show idx_main_v34 (ix1 k) t = ix2 t k from ext2 rfl rfl, weights_eq]
  simp only [h]
  show Ideal.div (Ideal.ofBits .f32 0x00000000#32 + _) (Ideal.ofBits .f32 0x45000000#32) = _
  rw [Ideal.ofBits_zero_f32, zero_add, bits_2048]

/-- The balance loss. -/
theorem aux_eq (i : S_.Idx) : val_main_v46 (F := Ideal) x0 x1 i = aux x0 x1 := by
  rw [val_main_v46_apply, val_main_v45_apply, val_main_v44_apply, val_main_cst_13_apply, val_main_cst_14_apply, val_main_cst_15_apply,
    ← Equiv.sum_comp (idxEquiv1 (n := 8)).symm]
  have h : ∀ k : Fin 8, val_main_v43 (F := Ideal) x0 x1 ((idxEquiv1 (n := 8)).symm k)
      = Ideal.div (∑ t, cw (logits x0 x1 t) (perm x0 x1 t k)) ((2048 : ℝ) : EReal) := fun k => by
    rw [show (idxEquiv1 (n := 8)).symm k = ix1 k from rfl, val_main_v43_apply, share, meanWeight]
    exact one_mul _
  simp only [h]
  show Ideal.div (Ideal.ofBits .f32 0x00000000#32 + _) (Ideal.ofBits .f32 0x41000000#32) * Ideal.ofBits .f32 0x42800000#32 = _
  rw [Ideal.ofBits_zero_f32, zero_add, bits_8, bits_64, aux_scale, Finset.sum_comm]
  simp only [sum_perm]
  rfl

end Cert.ReferenceIdeal.Meaning

end
-- ==== Proof.Equal.lean ====
/- The kernel and the reference: both run, and their three results are equal over the extended reals when the biases are zero. -/
module

public import proofs.«01_k».proof.Defs
public import proofs.«01_k».proof.Proof.Pre
public import proofs.«01_k».proof.Proof.KValue
public import proofs.«01_k».proof.Proof.RefOut
public import proofs.«01_k».proof.Proof.RefAux
public import proofs.«01_k».proof.Proof.Gen.ReferenceIdeal.Run

@[expose] public section

set_option maxRecDepth 16384

noncomputable section

namespace Cert.Equal

open Idealize.ShloMosaic Idealize.ShloMosaic.TcCoe Idealize.ShloMosaic.ValueIdx Idealize.SL.Sem
open Cert.Moe Cert.KernelIdeal.Hand Cert.KernelIdeal.Meaning Cert.ReferenceIdeal.Meaning

/-- The memories of the two programs. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two memories hold the same six arguments on core `c`. -/
def Same (m : KMem) (m' : RMem) (c : Dev Cert.KernelIdeal.nD) : Prop :=
  m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5)
    = m ((c.tc : Thread Cert.KernelIdeal.nD Cert.KernelIdeal.τ).loc Cert.KernelIdeal.main_arg5)

variable (m : KMem) (m' : RMem) (c : Dev Cert.KernelIdeal.nD) (h : Same m m' c)

include h

/-- The layer's output is the same when both biases are zero. -/
theorem out_same (hb : Cert.Pre_KernelIdeal_zero_biases m) : Cert.ReferenceIdeal.Value.res_main_v76 m' c = res0 m c := by
  obtain ⟨h0, h1, h2, h3, h4, h5⟩ := h
  obtain ⟨z3, z5⟩ := Cert.Pre_zero_biases.Hand.zero _ _ _ _ _ _ (hb c)
  rw [Cert.ReferenceIdeal.Read.val_main_v76_eq, h0, h1, h2, h3, h4, h5]
  funext j
  have e : j = ix3 0 (j 1) (j 2) := ext3 (by have : (j 0).val < 1 := (j 0).isLt; show (j 0).val = 0; omega) rfl rfl
  rw [e]
  exact (out_eq _ _ _ _ _ _ z3 z5 (j 1) (j 2)).trans (res0_eq m c (j 1) (j 2)).symm

/-- The auxiliary loss is the same. -/
theorem aux_same : Cert.ReferenceIdeal.Value.res_main_v46 m' c = res1 m c := by
  obtain ⟨h0, h1, -⟩ := h
  rw [Cert.ReferenceIdeal.Read.val_main_v46_eq, h0, h1]
  exact funext fun i => (aux_eq _ _ i).trans (res1_eq m c i).symm

/-- The z loss is the same. -/
theorem z_same : Cert.ReferenceIdeal.Value.res_main_v33 m' c = res2 m c := by
  obtain ⟨h0, h1, -⟩ := h
  rw [Cert.ReferenceIdeal.Read.val_main_v33_eq, h0, h1]
  exact funext fun i => (z_eq _ _ i).trans (res2_eq m c i).symm

end Cert.Equal

end
-- ==== Proof.lean ====
/- The proof of the claims: the kernel and the reference run and leave their arguments as they were, and over the extended reals
   the kernel's three results are the reference's when both biases are zero. -/
module

public import proofs.«01_k».proof.Defs
public import proofs.«01_k».proof.Proof.KernelFrame
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem

/-- The kernel's frame over the extended reals. -/
theorem kernel_frame : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run m g)

/-- The reference's frame. -/
theorem reference_frame : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The three results are equal when both biases are zero. -/
theorem equal : Cert.algebraic_KernelIdeal_ReferenceIdeal_pre_zero_biases (hKernelIdeal := Cert.KernelIdeal.Gen.facts)
    (hReferenceIdeal := Cert.ReferenceIdeal.Gen.facts) (hPre_zero_biases := Cert.Pre_zero_biases.Hand.facts) := fun m g m' g' hb h =>
  ⟨Cert.KernelIdeal.Hand.res0 m, Cert.KernelIdeal.Hand.res1 m, Cert.KernelIdeal.Hand.res2 m,
    (θ_run Cert.KernelIdeal.defs _ _).mono
      (fun _ e c => ⟨(e.1 c).1.1, (e.1 c).1.2.1, (e.1 c).1.2.2, (e.1 c).2⟩) (Cert.KernelIdeal.Hand.run m g),
    (θ_run Cert.ReferenceIdeal.defs _ _).mono
      (fun _ e c => ⟨(e c).1.trans (Cert.Equal.out_same m m' c (h c) hb), (e c).2.1.trans (Cert.Equal.aux_same m m' c (h c)),
        (e c).2.2.1.trans (Cert.Equal.z_same m m' c (h c)), (e c).2.2.2⟩) (Cert.ReferenceIdeal.Value.run (F := Ideal) m' g')⟩

/-- The claims. -/
theorem claim : Cert.Claim :=
  ⟨Cert.Kernel.Gen.facts, Cert.KernelIdeal.Gen.facts, Cert.ReferenceIdeal.Gen.facts, Cert.Pre_zero_biases.Hand.facts,
    fun m g _ => Cert.Kernel.Hand.frame m g, kernel_frame, fun m g _ => kernel_frame m g trivial, reference_frame,
    fun m g _ => reference_frame m g trivial, trivial, equal⟩

end Cert.Proof

end
